-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router_inputs [hPre_finite_router_inputs : Cert.Pre_finite_router_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router_inputs [hPre_finite_router_inputs : Cert.Pre_finite_router_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_router_inputs [hKernelIdeal : Cert.KernelIdeal.Facts] [hPre_finite_router_inputs : Cert.Pre_finite_router_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_router_inputs [hReferenceIdeal : Cert.ReferenceIdeal.Facts] [hPre_finite_router_inputs : Cert.Pre_finite_router_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_router_inputs [hKernelIdeal : Cert.KernelIdeal.Facts] [hReferenceIdeal : Cert.ReferenceIdeal.Facts] [hPre_finite_router_inputs : Cert.Pre_finite_router_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v27)) (v3 : (c : Dev Cert.KernelIdeal.nD) → Buf (Elt Ideal) ((c.tc : Thread Cert.KernelIdeal.nD Cert.KernelIdeal.τ).loc Cert.KernelIdeal.main_v24)) (v4 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_v24) = v3 c
          ∧ r.2.mem ((c.tc : Thread Cert.KernelIdeal.nD Cert.KernelIdeal.τ).loc Cert.KernelIdeal.main_v23) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v253) = v0 c
          ∧ r.2.mem ((c.tc : Thread Cert.ReferenceIdeal.nD Cert.ReferenceIdeal.τ).loc Cert.ReferenceIdeal.main_v254) = v1 c
          ∧ r.2.mem ((c.tc : Thread Cert.ReferenceIdeal.nD Cert.ReferenceIdeal.τ).loc Cert.ReferenceIdeal.main_v255) = v2 c
          ∧ r.2.mem ((c.tc : Thread Cert.ReferenceIdeal.nD Cert.ReferenceIdeal.τ).loc Cert.ReferenceIdeal.main_v252) = v3 c
          ∧ r.2.mem ((c.tc : Thread Cert.ReferenceIdeal.nD Cert.ReferenceIdeal.τ).loc Cert.ReferenceIdeal.main_v35) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_router_inputs : Cert.Pre_finite_router_inputs.Facts),
    quiescent_Kernel (hKernel := hKernel)
    ∧ quiescent_KernelIdeal (hKernelIdeal := hKernelIdeal)
    ∧ quiescent_KernelIdeal_pre_finite_router_inputs (hKernelIdeal := hKernelIdeal) (hPre_finite_router_inputs := hPre_finite_router_inputs)
    ∧ quiescent_ReferenceIdeal (hReferenceIdeal := hReferenceIdeal)
    ∧ quiescent_ReferenceIdeal_pre_finite_router_inputs (hReferenceIdeal := hReferenceIdeal) (hPre_finite_router_inputs := hPre_finite_router_inputs)
    ∧ preserves_Kernel_KernelIdeal
    ∧ algebraic_KernelIdeal_ReferenceIdeal_pre_finite_router_inputs (hKernelIdeal := hKernelIdeal) (hReferenceIdeal := hReferenceIdeal) (hPre_finite_router_inputs := hPre_finite_router_inputs)
-- ==== Pre_finite_router_inputs.lean ====
abbrev S2x2048x1024 : Shape := ⟨3, ![2, 2048, 1024]⟩
abbrev S1024x8 : Shape := ⟨2, ![1024, 8]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S8x32x1024 : Shape := ⟨3, ![8, 32, 1024]⟩
abbrev S8x1024x32 : Shape := ⟨3, ![8, 1024, 32]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S32x1024 : Shape := ⟨2, ![32, 1024]⟩
abbrev S1024x32 : Shape := ⟨2, ![1024, 32]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S2x2048x1024 .f32) (main_arg1 : FVec F S1024x8 .f32) (main_arg2 : FVec F S8x4096x1024 .f32) (main_arg3 : FVec F S8x4096 .f32) (main_arg4 : FVec F S8x1024x4096 .f32) (main_arg5 : FVec F S8x1024 .f32) (main_arg6 : FVec F S8x32x1024 .f32) (main_arg7 : FVec F S8x1024x32 .f32) (main_arg8 : FVec F S4096x1024 .f32) (main_arg9 : FVec F S4096 .f32) (main_arg10 : FVec F S1024x4096 .f32) (main_arg11 : FVec F S1024 .f32) (main_arg12 : FVec F S32x1024 .f32) (main_arg13 : FVec F S1024x32 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S2x2048x1024 : Shape := ⟨3, ![2, 2048, 1024]⟩
abbrev S1024x8 : Shape := ⟨2, ![1024, 8]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S8x32x1024 : Shape := ⟨3, ![8, 32, 1024]⟩
abbrev S8x1024x32 : Shape := ⟨3, ![8, 1024, 32]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S32x1024 : Shape := ⟨2, ![32, 1024]⟩
abbrev S1024x32 : Shape := ⟨2, ![1024, 32]⟩
abbrev S4096x2 : Shape := ⟨2, ![4096, 2]⟩
abbrev S4096x8 : Shape := ⟨2, ![4096, 8]⟩
abbrev S1x1 : Shape := ⟨2, ![1, 1]⟩
abbrev S1024x1024 : Shape := ⟨2, ![1024, 1024]⟩
abbrev S1024x2 : Shape := ⟨2, ![1024, 2]⟩
abbrev S2x8 : Shape := ⟨2, ![2, 8]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩
abbrev S1x8 : Shape := ⟨2, ![1, 8]⟩
abbrev S1023x8 : Shape := ⟨2, ![1023, 8]⟩
abbrev S1022x8 : Shape := ⟨2, ![1022, 8]⟩
abbrev S4x8 : Shape := ⟨2, ![4, 8]⟩
abbrev S1020x8 : Shape := ⟨2, ![1020, 8]⟩
abbrev S8x8 : Shape := ⟨2, ![8, 8]⟩
abbrev S1016x8 : Shape := ⟨2, ![1016, 8]⟩
abbrev S16x8 : Shape := ⟨2, ![16, 8]⟩
abbrev S1008x8 : Shape := ⟨2, ![1008, 8]⟩
abbrev S32x8 : Shape := ⟨2, ![32, 8]⟩
abbrev S992x8 : Shape := ⟨2, ![992, 8]⟩
abbrev S64x8 : Shape := ⟨2, ![64, 8]⟩
abbrev S960x8 : Shape := ⟨2, ![960, 8]⟩
abbrev S128x8 : Shape := ⟨2, ![128, 8]⟩
abbrev S896x8 : Shape := ⟨2, ![896, 8]⟩
abbrev S256x8 : Shape := ⟨2, ![256, 8]⟩
abbrev S768x8 : Shape := ⟨2, ![768, 8]⟩
abbrev S512x8 : Shape := ⟨2, ![512, 8]⟩
abbrev S8 : Shape := ⟨1, ![8]⟩
abbrev S1x4096x1024 : Shape := ⟨3, ![1, 4096, 1024]⟩
abbrev S9x4096x1024 : Shape := ⟨3, ![9, 4096, 1024]⟩
abbrev S1x1024x4096 : Shape := ⟨3, ![1, 1024, 4096]⟩
abbrev S9x1024x4096 : Shape := ⟨3, ![9, 1024, 4096]⟩
abbrev S1x4096 : Shape := ⟨2, ![1, 4096]⟩
abbrev S9x4096 : Shape := ⟨2, ![9, 4096]⟩
abbrev S1x1024 : Shape := ⟨2, ![1, 1024]⟩
abbrev S9x1024 : Shape := ⟨2, ![9, 1024]⟩
abbrev S1x32x1024 : Shape := ⟨3, ![1, 32, 1024]⟩
abbrev S9x32x1024 : Shape := ⟨3, ![9, 32, 1024]⟩
abbrev S1x1024x32 : Shape := ⟨3, ![1, 1024, 32]⟩
abbrev S9x1024x32 : Shape := ⟨3, ![9, 1024, 32]⟩
abbrev S_ : Shape := ⟨0, ![]⟩
abbrev S4096x1 : Shape := ⟨2, ![4096, 1]⟩
abbrev S4096x9 : Shape := ⟨2, ![4096, 9]⟩
abbrev S1x512x1024 : Shape := ⟨3, ![1, 512, 1024]⟩
abbrev S1x1024x512 : Shape := ⟨3, ![1, 1024, 512]⟩
abbrev S1024x9 : Shape := ⟨2, ![1024, 9]⟩
abbrev S512x1024 : Shape := ⟨2, ![512, 1024]⟩
abbrev S1x512 : Shape := ⟨2, ![1, 512]⟩
abbrev S1024x512 : Shape := ⟨2, ![1024, 512]⟩
abbrev S2x2048x2 : Shape := ⟨3, ![2, 2048, 2]⟩

abbrev nBuf : Space → Nat
  | .hbm => 48
  | .vmem => 25
  | .smem => 1
  | _ => 0

abbrev bufTy : (tb : Table) → Fin (tcTables nBuf tb) → BufTy
  | .hbm, ⟨0, _⟩ => ⟨S2x2048x1024, .f32⟩
  | .hbm, ⟨1, _⟩ => ⟨S1024x8, .f32⟩
  | .hbm, ⟨2, _⟩ => ⟨S8x4096x1024, .f32⟩
  | .hbm, ⟨3, _⟩ => ⟨S8x4096, .f32⟩
  | .hbm, ⟨4, _⟩ => ⟨S8x1024x4096, .f32⟩
  | .hbm, ⟨5, _⟩ => ⟨S8x1024, .f32⟩
  | .hbm, ⟨6, _⟩ => ⟨S8x32x1024, .f32⟩
  | .hbm, ⟨7, _⟩ => ⟨S8x1024x32, .f32⟩
  | .hbm, ⟨8, _⟩ => ⟨S4096x1024, .f32⟩
  | .hbm, ⟨9, _⟩ => ⟨S4096, .f32⟩
  | .hbm, ⟨10, _⟩ => ⟨S1024x4096, .f32⟩
  | .hbm, ⟨11, _⟩ => ⟨S1024, .f32⟩
  | .hbm, ⟨12, _⟩ => ⟨S32x1024, .f32⟩
  | .hbm, ⟨13, _⟩ => ⟨S1024x32, .f32⟩
  | .hbm, ⟨14, _⟩ => ⟨S4096x1024, .f32⟩
  | .hbm, ⟨15, _⟩ => ⟨S4096x2, .f32⟩
  | .hbm, ⟨16, _⟩ => ⟨S4096x2, .i32⟩
  | .hbm, ⟨17, _⟩ => ⟨S4096x8, .f32⟩
  | .hbm, ⟨18, _⟩ => ⟨S1x1, .f32⟩
  | .hbm, ⟨19, _⟩ => ⟨S1x4096x1024, .f32⟩
  | .hbm, ⟨20, _⟩ => ⟨S9x4096x1024, .f32⟩
  | .hbm, ⟨21, _⟩ => ⟨S9x4096x1024, .bf16⟩
  | .hbm, ⟨22, _⟩ => ⟨S1x1024x4096, .f32⟩
  | .hbm, ⟨23, _⟩ => ⟨S9x1024x4096, .f32⟩
  | .hbm, ⟨24, _⟩ => ⟨S9x1024x4096, .bf16⟩
  | .hbm, ⟨25, _⟩ => ⟨S1x4096, .f32⟩
  | .hbm, ⟨26, _⟩ => ⟨S9x4096, .f32⟩
  | .hbm, ⟨27, _⟩ => ⟨S1x1024, .f32⟩
  | .hbm, ⟨28, _⟩ => ⟨S9x1024, .f32⟩
  | .hbm, ⟨29, _⟩ => ⟨S1x32x1024, .f32⟩
  | .hbm, ⟨30, _⟩ => ⟨S9x32x1024, .f32⟩
  | .hbm, ⟨31, _⟩ => ⟨S9x32x1024, .bf16⟩
  | .hbm, ⟨32, _⟩ => ⟨S1x1024x32, .f32⟩
  | .hbm, ⟨33, _⟩ => ⟨S9x1024x32, .f32⟩
  | .hbm, ⟨34, _⟩ => ⟨S9x1024x32, .bf16⟩
  | .hbm, ⟨35, _⟩ => ⟨S_, .f32⟩
  | .hbm, ⟨36, _⟩ => ⟨S4096x1, .f32⟩
  | .hbm, ⟨37, _⟩ => ⟨S4096x9, .f32⟩
  | .hbm, ⟨38, _⟩ => ⟨S4096x1024, .bf16⟩
  | .hbm, ⟨39, _⟩ => ⟨S4096x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8, .f32⟩
  | .hbm, ⟨45, _⟩ => ⟨S2x2048x1024, .f32⟩
  | .hbm, ⟨46, _⟩ => ⟨S2x2048x2, .f32⟩
  | .hbm, ⟨47, _⟩ => ⟨S2x2048x2, .i32⟩
  | .local _ .vmem, ⟨0, _⟩ => ⟨S1024x1024, .f32⟩
  | .local _ .vmem, ⟨1, _⟩ => ⟨S1024x1024, .f32⟩
  | .local _ .vmem, ⟨2, _⟩ => ⟨S1024x8, .f32⟩
  | .local _ .vmem, ⟨3, _⟩ => ⟨S1024x2, .f32⟩
  | .local _ .vmem, ⟨4, _⟩ => ⟨S1024x2, .f32⟩
  | .local _ .vmem, ⟨5, _⟩ => ⟨S1024x2, .i32⟩
  | .local _ .vmem, ⟨6, _⟩ => ⟨S1024x2, .i32⟩
  | .local _ .vmem, ⟨7, _⟩ => ⟨S1024x8, .f32⟩
  | .local _ .vmem, ⟨8, _⟩ => ⟨S1024x8, .f32⟩
  | .local _ .vmem, ⟨9, _⟩ => ⟨S2x8, .f32⟩
  | .local _ .vmem, ⟨10, _⟩ => ⟨S1024x1024, .bf16⟩
  | .local _ .vmem, ⟨11, _⟩ => ⟨S1024x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024x512, .bf16⟩
  | .local _ .vmem, ⟨15, _⟩ => ⟨S1x1024x512, .bf16⟩
  | .local _ .vmem, ⟨16, _⟩ => ⟨S9x4096, .f32⟩
  | .local _ .vmem, ⟨17, _⟩ => ⟨S9x1024, .f32⟩
  | .local _ .vmem, ⟨18, _⟩ => ⟨S9x32x1024, .bf16⟩
  | .local _ .vmem, ⟨19, _⟩ => ⟨S9x1024x32, .bf16⟩
  | .local _ .vmem, ⟨20, _⟩ => ⟨S1024x9, .f32⟩
  | .local _ .vmem, ⟨21, _⟩ => ⟨S1024x9, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .smem, ⟨0, _⟩ => ⟨S1x1, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1_0 : Ref sig .tc := ⟨.hbm, 15, rfl⟩
abbrev main_v1_1 : Ref sig .tc := ⟨.hbm, 16, rfl⟩
abbrev main_v1_2 : Ref sig .tc := ⟨.hbm, 17, rfl⟩
abbrev main_v1_3 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_0 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_scratch0 : Ref sig .tc := ⟨.vmem, 24, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨3, ![4, 9, 8], ![false, false, false]⟩

def k1_off1 (i : grid1.Coords) : Fin 2 → Nat :=
  let arg1 : BitVec 32 := BitVec.ofNat 32 (i 1).val
  let v5 : Index := Scalar.indexCast arg1
  let arg2 : BitVec 32 := BitVec.ofNat 32 (i 2).val
  let c512_i32 : BitVec 32 := 512#32
  let v4 : BitVec 32 := Scalar.muli arg2 c512_i32
  let v6 : Index := Scalar.indexCast v4
  ![v5.toNat, v6.toNat]
def k1_off2 (i : grid1.Coords) : Fin 3 → Nat :=
  let arg1 : BitVec 32 := BitVec.ofNat 32 (i 1).val
  let v24 : Index := Scalar.indexCast arg1
  let c0_11 : Index := 0#32
  let c0_12 : Index := 0#32
  ![v24.toNat, 0, 0]
def k1_off3 (i : grid1.Coords) : Fin 3 → Nat :=
  let arg1 : BitVec 32 := BitVec.ofNat 32 (i 1).val
  let v27 : Index := Scalar.indexCast arg1
  let c0_13 : Index := 0#32
  let c0_14 : Index := 0#32
  ![v27.toNat, 0, 0]
def k1_off4 (i : grid1.Coords) : Fin 2 → Nat :=
  let arg1 : BitVec 32 := BitVec.ofNat 32 (i 1).val
  let v41 : Index := Scalar.indexCast arg1
  let c0_20 : Index := 0#32
  ![v41.toNat, 0]
def k1_cond1 (i : grid1.Coords) : BitVec 1 :=
  let arg2 : BitVec 32 := BitVec.ofNat 32 (i 2).val
  let c7_i32 : BitVec 32 := 7#32
  let v53 : BitVec 1 := Scalar.cmpi .eq arg2 c7_i32
  let v54 : BitVec 32 := Scalar.extui v53
  let c0_i32_25 : BitVec 32 := 0#32
  let v55 : BitVec 1 := Scalar.cmpi .ne v54 c0_i32_25
  v55

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 1 → Memref sig .tc .vmem S9x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S9x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S9x32x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S9x1024x32 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 2 → Memref sig .tc .vmem S1024x9 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S1024x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]
-- ==== ReferenceIdeal.lean ====
abbrev S2x2048x1024 : Shape := ⟨3, ![2, 2048, 1024]⟩
abbrev S1024x8 : Shape := ⟨2, ![1024, 8]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S8x32x1024 : Shape := ⟨3, ![8, 32, 1024]⟩
abbrev S8x1024x32 : Shape := ⟨3, ![8, 1024, 32]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S32x1024 : Shape := ⟨2, ![32, 1024]⟩
abbrev S1024x32 : Shape := ⟨2, ![1024, 32]⟩
abbrev S4096x8 : Shape := ⟨2, ![4096, 8]⟩
abbrev S_ : Shape := ⟨0, ![]⟩
abbrev S4096x1 : Shape := ⟨2, ![4096, 1]⟩
abbrev S4096x2 : Shape := ⟨2, ![4096, 2]⟩
abbrev S1x1024 : Shape := ⟨2, ![1, 1024]⟩
abbrev S4097x1024 : Shape := ⟨2, ![4097, 1024]⟩
abbrev S2x4096 : Shape := ⟨2, ![2, 4096]⟩
abbrev S2x1x4096 : Shape := ⟨3, ![2, 1, 4096]⟩
abbrev S8 : Shape := ⟨1, ![8]⟩
abbrev S8x1 : Shape := ⟨2, ![8, 1]⟩
abbrev S1x8x1 : Shape := ⟨3, ![1, 8, 1]⟩
abbrev S2x8x4096 : Shape := ⟨3, ![2, 8, 4096]⟩
abbrev S2x8x640 : Shape := ⟨3, ![2, 8, 640]⟩
abbrev S2 : Shape := ⟨1, ![2]⟩
abbrev S2x1 : Shape := ⟨2, ![2, 1]⟩
abbrev S1x8 : Shape := ⟨2, ![1, 8]⟩
abbrev S2x1x1 : Shape := ⟨3, ![2, 1, 1]⟩
abbrev S2x8x4096x1 : Shape := ⟨4, ![2, 8, 4096, 1]⟩
abbrev S2x8x4096x3 : Shape := ⟨4, ![2, 8, 4096, 3]⟩
abbrev S2x8 : Shape := ⟨2, ![2, 8]⟩
abbrev S2x8x1 : Shape := ⟨3, ![2, 8, 1]⟩
abbrev S640 : Shape := ⟨1, ![640]⟩
abbrev S1x1x640 : Shape := ⟨3, ![1, 1, 640]⟩
abbrev S1 : Shape := ⟨1, ![1]⟩
abbrev S4097 : Shape := ⟨1, ![4097]⟩
abbrev S1x8x640 : Shape := ⟨3, ![1, 8, 640]⟩
abbrev S8x640 : Shape := ⟨2, ![8, 640]⟩
abbrev S8x640x1 : Shape := ⟨3, ![8, 640, 1]⟩
abbrev S8x640x1024 : Shape := ⟨3, ![8, 640, 1024]⟩
abbrev S8x640x4096 : Shape := ⟨3, ![8, 640, 4096]⟩
abbrev S8x1x4096 : Shape := ⟨3, ![8, 1, 4096]⟩
abbrev S8x1x1024 : Shape := ⟨3, ![8, 1, 1024]⟩
abbrev S8x640x32 : Shape := ⟨3, ![8, 640, 32]⟩
abbrev S4096x4096 : Shape := ⟨2, ![4096, 4096]⟩
abbrev S1x4096 : Shape := ⟨2, ![1, 4096]⟩
abbrev S4096x32 : Shape := ⟨2, ![4096, 32]⟩
abbrev S2x2048x2 : Shape := ⟨3, ![2, 2048, 2]⟩

abbrev nBuf : Space → Nat
  | .hbm => 372
  | .vmem => 0
  | .smem => 0
  | _ => 0

abbrev hbmTy0_0 (i : Nat) : BufTy := match i % 128 with
  | 0 => ⟨S2x2048x1024, .f32⟩
  | 1 => ⟨S1024x8, .f32⟩
  | 2 => ⟨S8x4096x1024, .f32⟩
  | 3 => ⟨S8x4096, .f32⟩
  | 4 => ⟨S8x1024x4096, .f32⟩
  | 5 => ⟨S8x1024, .f32⟩
  | 6 => ⟨S8x32x1024, .f32⟩
  | 7 => ⟨S8x1024x32, .f32⟩
  | 8 => ⟨S4096x1024, .f32⟩
  | 9 => ⟨S4096, .f32⟩
  | 10 => ⟨S1024x4096, .f32⟩
  | 11 => ⟨S1024, .f32⟩
  | 12 => ⟨S32x1024, .f32⟩
  | 13 => ⟨S1024x32, .f32⟩
  | 14 => ⟨S4096x1024, .f32⟩
  | 15 => ⟨S4096x8, .f32⟩
  | 16 => ⟨S_, .f32⟩
  | 17 => ⟨S4096, .f32⟩
  | 18 => ⟨S_, .f32⟩
  | 19 => ⟨S4096, .f32⟩
  | 20 => ⟨S4096, .f32⟩
  | 21 => ⟨S4096x1, .f32⟩
  | 22 => ⟨S4096x8, .f32⟩
  | 23 => ⟨S4096x8, .f32⟩
  | 24 => ⟨S4096x8, .f32⟩
  | 25 => ⟨S_, .f32⟩
  | 26 => ⟨S4096, .f32⟩
  | 27 => ⟨S4096x1, .f32⟩
  | 28 => ⟨S4096x8, .f32⟩
  | 29 => ⟨S4096x8, .f32⟩
  | 30 => ⟨S4096x2, .f32⟩
  | 31 => ⟨S4096x2, .i32⟩
  | 32 => ⟨S_, .f32⟩
  | 33 => ⟨S4096, .f32⟩
  | 34 => ⟨S4096x1, .f32⟩
  | 35 => ⟨S4096x2, .f32⟩
  | 36 => ⟨S4096x2, .f32⟩
  | 37 => ⟨S_, .f32⟩
  | 38 => ⟨S4096, .f32⟩
  | 39 => ⟨S_, .f32⟩
  | 40 => ⟨S4096, .f32⟩
  | 41 => ⟨S4096, .f32⟩
  | 42 => ⟨S4096, .f32⟩
  | 43 => ⟨S_, .f32⟩
  | 44 => ⟨S4096, .f32⟩
  | 45 => ⟨S4096, .i1⟩
  | 46 => ⟨S_, .f32⟩
  | 47 => ⟨S4096, .f32⟩
  | 48 => ⟨S4096, .f32⟩
  | 49 => ⟨S4096x1, .f32⟩
  | 50 => ⟨S4096x8, .f32⟩
  | 51 => ⟨S4096x8, .f32⟩
  | 52 => ⟨S4096x8, .f32⟩
  | 53 => ⟨S_, .f32⟩
  | 54 => ⟨S4096, .f32⟩
  | 55 => ⟨S4096, .f32⟩
  | 56 => ⟨S4096, .f32⟩
  | 57 => ⟨S4096, .f32⟩
  | 58 => ⟨S4096, .f32⟩
  | 59 => ⟨S_, .f32⟩
  | 60 => ⟨S_, .f32⟩
  | 61 => ⟨S_, .f32⟩
  | 62 => ⟨S_, .f32⟩
  | 63 => ⟨S_, .f32⟩
  | 64 => ⟨S1x1024, .f32⟩
  | 65 => ⟨S4097x1024, .f32⟩
  | 66 => ⟨S2x4096, .i32⟩
  | 67 => ⟨S2x1x4096, .i32⟩
  | 68 => ⟨S8, .i32⟩
  | 69 => ⟨S8x1, .i32⟩
  | 70 => ⟨S1x8x1, .i32⟩
  | 71 => ⟨S2x8x4096, .i32⟩
  | 72 => ⟨S2x8x4096, .i32⟩
  | 73 => ⟨S2x8x4096, .i1⟩
  | 74 => ⟨S2x8x4096, .i32⟩
  | 75 => ⟨S_, .i32⟩
  | 76 => ⟨S_, .i32⟩
  | 77 => ⟨S2x8x4096, .i32⟩
  | 78 => ⟨S_, .i32⟩
  | 79 => ⟨S2x8x640, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S8, .i32⟩
  | 88 => ⟨S_, .i32⟩
  | 89 => ⟨S8, .i32⟩
  | 90 => ⟨S8, .i32⟩
  | 91 => ⟨S_, .i32⟩
  | 92 => ⟨S8, .i32⟩
  | 93 => ⟨S8, .i32⟩
  | 94 => ⟨S2x1, .i32⟩
  | 95 => ⟨S1x8, .i32⟩
  | 96 => ⟨S2x1x1, .i32⟩
  | 97 => ⟨S1x8x1, .i32⟩
  | 98 => ⟨S_, .i32⟩
  | 99 => ⟨S2x1x1, .i32⟩
  | 100 => ⟨S2x1x1, .i1⟩
  | 101 => ⟨S_, .i32⟩
  | 102 => ⟨S2x1x1, .i32⟩
  | 103 => ⟨S2x1x1, .i32⟩
  | 104 => ⟨S2x1x1, .i32⟩
  | 105 => ⟨S_, .i32⟩
  | 106 => ⟨S1x8x1, .i32⟩
  | 107 => ⟨S1x8x1, .i1⟩
  | 108 => ⟨S_, .i32⟩
  | 109 => ⟨S1x8x1, .i32⟩
  | 110 => ⟨S1x8x1, .i32⟩
  | 111 => ⟨S1x8x1, .i32⟩
  | 112 => ⟨S_, .i32⟩
  | 113 => ⟨S2x8x4096, .i32⟩
  | 114 => ⟨S2x8x4096, .i1⟩
  | 115 => ⟨S_, .i32⟩
  | 116 => ⟨S2x8x4096, .i32⟩
  | 117 => ⟨S2x8x4096, .i32⟩
  | 118 => ⟨S2x8x4096, .i32⟩
  | 119 => ⟨S2x8x4096, .i32⟩
  | 120 => ⟨S2x8x4096, .i32⟩
  | 121 => ⟨S2x8x4096x1, .i32⟩
  | 122 => ⟨S2x8x4096x1, .i32⟩
  | 123 => ⟨S2x8x4096x1, .i32⟩
  | 124 => ⟨S2x8x4096x3, .i32⟩
  | 125 => ⟨S_, .i32⟩
  | 126 => ⟨S2x8x4096, .i32⟩
  | 127 => ⟨S2x8x640, .i32⟩
  | _ => ⟨S2x2048x1024, .f32⟩

abbrev hbmTy0_1 (i : Nat) : BufTy := match i % 128 with
  | 0 => ⟨S_, .i32⟩
  | 1 => ⟨S_, .i32⟩
  | 2 => ⟨S2x8x640, .i32⟩
  | 3 => ⟨S_, .i32⟩
  | 4 => ⟨S_, .i32⟩
  | 5 => ⟨S2x8x640, .i32⟩
  | 6 => ⟨S2x8x640, .i32⟩
  | 7 => ⟨S2x8x640, .i32⟩
  | 8 => ⟨S_, .i32⟩
  | 9 => ⟨S2x8x640, .i32⟩
  | 10 => ⟨S2x8x640, .i1⟩
  | 11 => ⟨S2x8x640, .i32⟩
  | 12 => ⟨S2x8x640, .i32⟩
  | 13 => ⟨S_, .i32⟩
  | 14 => ⟨S2x8x640, .i32⟩
  | 15 => ⟨S2x8x640, .i1⟩
  | 16 => ⟨S2x8x640, .i1⟩
  | 17 => ⟨S_, .i32⟩
  | 18 => ⟨S2x8x640, .i32⟩
  | 19 => ⟨S2x8x640, .i32⟩
  | 20 => ⟨S2x8x640, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S2x8x640, .i32⟩
  | 28 => ⟨S2x8x640, .i32⟩
  | 29 => ⟨S_, .i32⟩
  | 30 => ⟨S2x8x640, .i32⟩
  | 31 => ⟨S2x8x640, .i1⟩
  | 32 => ⟨S_, .i32⟩
  | 33 => ⟨S2x8x640, .i32⟩
  | 34 => ⟨S2x8x640, .i1⟩
  | 35 => ⟨S_, .i32⟩
  | 36 => ⟨S_, .i1⟩
  | 37 => ⟨S2x8x640, .i1⟩
  | 38 => ⟨S2x8x640, .i1⟩
  | 39 => ⟨S2x8x640, .i1⟩
  | 40 => ⟨S2x8x640, .i32⟩
  | 41 => ⟨S2x8x640, .i32⟩
  | 42 => ⟨S2x8x640, .i32⟩
  | 43 => ⟨S2x8x4096, .i32⟩
  | 44 => ⟨S_, .i32⟩
  | 45 => ⟨S2x8, .i32⟩
  | 46 => ⟨S2x8x1, .i32⟩
  | 47 => ⟨S640, .i32⟩
  | 48 => ⟨S1x1x640, .i32⟩
  | 49 => ⟨S2x8x640, .i32⟩
  | 50 => ⟨S2x8x640, .i32⟩
  | 51 => ⟨S2x8x640, .i1⟩
  | 52 => ⟨S_, .i32⟩
  | 53 => ⟨S1, .i32⟩
  | 54 => ⟨S2x8x640, .i32⟩
  | 55 => ⟨S2x8x640, .i32⟩
  | 56 => ⟨S_, .f32⟩
  | 57 => ⟨S4097x1024, .f32⟩
  | 58 => ⟨S4096x1, .f32⟩
  | 59 => ⟨S4096, .f32⟩
  | 60 => ⟨S_, .f32⟩
  | 61 => ⟨S1, .f32⟩
  | 62 => ⟨S4097, .f32⟩
  | 63 => ⟨S1x8x640, .i32⟩
  | 64 => ⟨S8x640, .i32⟩
  | 65 => ⟨S_, .i32⟩
  | 66 => ⟨S8x640, .i32⟩
  | 67 => ⟨S8x640, .i1⟩
  | 68 => ⟨S_, .i32⟩
  | 69 => ⟨S8x640, .i32⟩
  | 70 => ⟨S8x640, .i32⟩
  | 71 => ⟨S8x640, .i32⟩
  | 72 => ⟨S8x640x1, .i32⟩
  | 73 => ⟨S8x640x1024, .f32⟩
  | 74 => ⟨S8x1024x4096, .f32⟩
  | 75 => ⟨S8x640x4096, .f32⟩
  | 76 => ⟨S8x1x4096, .f32⟩
  | 77 => ⟨S8x640x4096, .f32⟩
  | 78 => ⟨S8x640x4096, .f32⟩
  | 79 => ⟨S_, .f32⟩
  | 80 => ⟨S8x640x4096, .f32⟩
  | 81 => ⟨S8x640x4096, .f32⟩
  | 82 => ⟨S8x640x4096, .f32⟩
  | 83 => ⟨S_, .f32⟩
  | 84 => ⟨S8x640x4096, .f32⟩
  | 85 => ⟨S8x640x4096, .f32⟩
  | 86 => ⟨S8x640x4096, .f32⟩
  | 87 => ⟨S8x640x4096, .f32⟩
  | 88 => ⟨S8x4096x1024, .f32⟩
  | 89 => ⟨S8x640x1024, .f32⟩
  | 90 => ⟨S8x1x1024, .f32⟩
  | 91 => ⟨S8x640x1024, .f32⟩
  | 92 => ⟨S8x640x1024, .f32⟩
  | 93 => ⟨S8x1024x32, .f32⟩
  | 94 => ⟨S8x640x32, .f32⟩
  | 95 => ⟨S_, .f32⟩
  | 96 => ⟨S8x640x32, .f32⟩
  | 97 => ⟨S8x640x32, .f32⟩
  | 98 => ⟨S8x640x32, .f32⟩
  | 99 => ⟨S_, .f32⟩
  | 100 => ⟨S8x640x32, .f32⟩
  | 101 => ⟨S8x640x32, .f32⟩
  | 102 => ⟨S8x640x32, .f32⟩
  | 103 => ⟨S8x640x32, .f32⟩
  | 104 => ⟨S8x32x1024, .f32⟩
  | 105 => ⟨S8x640x1024, .f32⟩
  | 106 => ⟨S8x640x1024, .f32⟩
  | 107 => ⟨S_, .i32⟩
  | 108 => ⟨S8x640, .i32⟩
  | 109 => ⟨S8x640, .i1⟩
  | 110 => ⟨S_, .i32⟩
  | 111 => ⟨S8x640, .i32⟩
  | 112 => ⟨S8x640, .i32⟩
  | 113 => ⟨S8x640, .i32⟩
  | 114 => ⟨S8x640x1, .i32⟩
  | 115 => ⟨S8x640, .f32⟩
  | 116 => ⟨S8x640x1, .f32⟩
  | 117 => ⟨S8x640x1024, .f32⟩
  | 118 => ⟨S8x640x1024, .f32⟩
  | 119 => ⟨S_, .i32⟩
  | 120 => ⟨S8x640, .i32⟩
  | 121 => ⟨S8x640, .i1⟩
  | 122 => ⟨S_, .i32⟩
  | 123 => ⟨S8x640, .i32⟩
  | 124 => ⟨S8x640, .i32⟩
  | 125 => ⟨S8x640, .i32⟩
  | 126 => ⟨S8x640x1, .i32⟩
  | 127 => ⟨S4097x1024, .f32⟩
  | _ => ⟨S2x2048x1024, .f32⟩

abbrev hbmTy0_2 (i : Nat) : BufTy := match i % 128 with
  | 0 => ⟨S4096x1, .f32⟩
  | 1 => ⟨S4096, .f32⟩
  | 2 => ⟨S_, .f32⟩
  | 3 => ⟨S1, .f32⟩
  | 4 => ⟨S4097, .f32⟩
  | 5 => ⟨S1x8x640, .i32⟩
  | 6 => ⟨S8x640, .i32⟩
  | 7 => ⟨S_, .i32⟩
  | 8 => ⟨S8x640, .i32⟩
  | 9 => ⟨S8x640, .i1⟩
  | 10 => ⟨S_, .i32⟩
  | 11 => ⟨S8x640, .i32⟩
  | 12 => ⟨S8x640, .i32⟩
  | 13 => ⟨S8x640, .i32⟩
  | 14 => ⟨S8x640x1, .i32⟩
  | 15 => ⟨S8x640x1024, .f32⟩
  | 16 => ⟨S8x1024x4096, .f32⟩
  | 17 => ⟨S8x640x4096, .f32⟩
  | 18 => ⟨S8x1x4096, .f32⟩
  | 19 => ⟨S8x640x4096, .f32⟩
  | 20 => ⟨S8x640x4096, .f32⟩
  | 21 => ⟨S_, .f32⟩
  | 22 => ⟨S8x640x4096, .f32⟩
  | 23 => ⟨S8x640x4096, .f32⟩
  | 24 => ⟨S8x640x4096, .f32⟩
  | 25 => ⟨S_, .f32⟩
  | 26 => ⟨S8x640x4096, .f32⟩
  | 27 => ⟨S8x640x4096, .f32⟩
  | 28 => ⟨S8x640x4096, .f32⟩
  | 29 => ⟨S8x640x4096, .f32⟩
  | 30 => ⟨S8x4096x1024, .f32⟩
  | 31 => ⟨S8x640x1024, .f32⟩
  | 32 => ⟨S8x1x1024, .f32⟩
  | 33 => ⟨S8x640x1024, .f32⟩
  | 34 => ⟨S8x640x1024, .f32⟩
  | 35 => ⟨S8x1024x32, .f32⟩
  | 36 => ⟨S8x640x32, .f32⟩
  | 37 => ⟨S_, .f32⟩
  | 38 => ⟨S8x640x32, .f32⟩
  | 39 => ⟨S8x640x32, .f32⟩
  | 40 => ⟨S8x640x32, .f32⟩
  | 41 => ⟨S_, .f32⟩
  | 42 => ⟨S8x640x32, .f32⟩
  | 43 => ⟨S8x640x32, .f32⟩
  | 44 => ⟨S8x640x32, .f32⟩
  | 45 => ⟨S8x640x32, .f32⟩
  | 46 => ⟨S8x32x1024, .f32⟩
  | 47 => ⟨S8x640x1024, .f32⟩
  | 48 => ⟨S8x640x1024, .f32⟩
  | 49 => ⟨S_, .i32⟩
  | 50 => ⟨S8x640, .i32⟩
  | 51 => ⟨S8x640, .i1⟩
  | 52 => ⟨S_, .i32⟩
  | 53 => ⟨S8x640, .i32⟩
  | 54 => ⟨S8x640, .i32⟩
  | 55 => ⟨S8x640, .i32⟩
  | 56 => ⟨S8x640x1, .i32⟩
  | 57 => ⟨S8x640, .f32⟩
  | 58 => ⟨S8x640x1, .f32⟩
  | 59 => ⟨S8x640x1024, .f32⟩
  | 60 => ⟨S8x640x1024, .f32⟩
  | 61 => ⟨S_, .i32⟩
  | 62 => ⟨S8x640, .i32⟩
  | 63 => ⟨S8x640, .i1⟩
  | 64 => ⟨S_, .i32⟩
  | 65 => ⟨S8x640, .i32⟩
  | 66 => ⟨S8x640, .i32⟩
  | 67 => ⟨S8x640, .i32⟩
  | 68 => ⟨S8x640x1, .i32⟩
  | 69 => ⟨S4097x1024, .f32⟩
  | 70 => ⟨S4096x1024, .f32⟩
  | 71 => ⟨S1024x4096, .f32⟩
  | 72 => ⟨S4096x4096, .f32⟩
  | 73 => ⟨S1x4096, .f32⟩
  | 74 => ⟨S4096x4096, .f32⟩
  | 75 => ⟨S4096x4096, .f32⟩
  | 76 => ⟨S_, .f32⟩
  | 77 => ⟨S4096x4096, .f32⟩
  | 78 => ⟨S4096x4096, .f32⟩
  | 79 => ⟨S4096x4096, .f32⟩
  | 80 => ⟨S_, .f32⟩
  | 81 => ⟨S4096x4096, .f32⟩
  | 82 => ⟨S4096x4096, .f32⟩
  | 83 => ⟨S4096x4096, .f32⟩
  | 84 => ⟨S4096x4096, .f32⟩
  | 85 => ⟨S4096x1024, .f32⟩
  | 86 => ⟨S4096x1024, .f32⟩
  | 87 => ⟨S1x1024, .f32⟩
  | 88 => ⟨S4096x1024, .f32⟩
  | 89 => ⟨S4096x1024, .f32⟩
  | 90 => ⟨S1024x32, .f32⟩
  | 91 => ⟨S4096x32, .f32⟩
  | 92 => ⟨S_, .f32⟩
  | 93 => ⟨S4096x32, .f32⟩
  | 94 => ⟨S4096x32, .f32⟩
  | 95 => ⟨S4096x32, .f32⟩
  | 96 => ⟨S_, .f32⟩
  | 97 => ⟨S4096x32, .f32⟩
  | 98 => ⟨S4096x32, .f32⟩
  | 99 => ⟨S4096x32, .f32⟩
  | 100 => ⟨S4096x32, .f32⟩
  | 101 => ⟨S32x1024, .f32⟩
  | 102 => ⟨S4096x1024, .f32⟩
  | 103 => ⟨S4096x1024, .f32⟩
  | 104 => ⟨S_, .f32⟩
  | 105 => ⟨S4096x1024, .f32⟩
  | 106 => ⟨S4096x1024, .f32⟩
  | 107 => ⟨S4096x1024, .f32⟩
  | 108 => ⟨S_, .f32⟩
  | 109 => ⟨S8, .f32⟩
  | 110 => ⟨S_, .f32⟩
  | 111 => ⟨S8, .f32⟩
  | 112 => ⟨S8, .f32⟩
  | 113 => ⟨S2x2048x1024, .f32⟩
  | 114 => ⟨S2x2048x2, .f32⟩
  | 115 => ⟨S2x2048x2, .i32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_values : Ref sig .tc := ⟨.hbm, 30, rfl⟩
abbrev main_indices : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_cst_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call0_v0 : Ref sig .tc := ⟨.hbm, 74, rfl⟩
abbrev main_call0_call0_c : Ref sig .tc := ⟨.hbm, 75, rfl⟩
abbrev main_call0_call0_v0 : Ref sig .tc := ⟨.hbm, 76, rfl⟩
abbrev main_v46 : Ref sig .tc := ⟨.hbm, 77, rfl⟩
abbrev main_c : Ref sig .tc := ⟨.hbm, 78, rfl⟩
abbrev main_v47 : Ref sig .tc := ⟨.hbm, 79, rfl⟩
abbrev main_v48 : Ref sig .tc := ⟨.hbm, 80, rfl⟩
abbrev main_c_11 : Ref sig .tc := ⟨.hbm, 81, rfl⟩
abbrev main_v49 : Ref sig .tc := ⟨.hbm, 82, rfl⟩
abbrev main_v50 : Ref sig .tc := ⟨.hbm, 83, rfl⟩
abbrev main_c_12 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_c_13 : Ref sig .tc := ⟨.hbm, 88, rfl⟩
abbrev main_v54 : Ref sig .tc := ⟨.hbm, 89, rfl⟩
abbrev main_v55 : Ref sig .tc := ⟨.hbm, 90, rfl⟩
abbrev main_c_14 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_15 : Ref sig .tc := ⟨.hbm, 98, rfl⟩
abbrev main_v62 : Ref sig .tc := ⟨.hbm, 99, rfl⟩
abbrev main_v63 : Ref sig .tc := ⟨.hbm, 100, rfl⟩
abbrev main_c_16 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_17 : Ref sig .tc := ⟨.hbm, 105, rfl⟩
abbrev main_v67 : Ref sig .tc := ⟨.hbm, 106, rfl⟩
abbrev main_v68 : Ref sig .tc := ⟨.hbm, 107, rfl⟩
abbrev main_c_18 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_19 : Ref sig .tc := ⟨.hbm, 112, rfl⟩
abbrev main_v72 : Ref sig .tc := ⟨.hbm, 113, rfl⟩
abbrev main_v73 : Ref sig .tc := ⟨.hbm, 114, rfl⟩
abbrev main_c_20 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_21 : Ref sig .tc := ⟨.hbm, 125, rfl⟩
abbrev main_v83 : Ref sig .tc := ⟨.hbm, 126, rfl⟩
abbrev main_v84 : Ref sig .tc := ⟨.hbm, 127, rfl⟩
abbrev main_call1_call0_c : Ref sig .tc := ⟨.hbm, 128, rfl⟩
abbrev main_call1_call0_v0 : Ref sig .tc := ⟨.hbm, 129, rfl⟩
abbrev main_v85 : Ref sig .tc := ⟨.hbm, 130, rfl⟩
abbrev main_c_22 : Ref sig .tc := ⟨.hbm, 131, rfl⟩
abbrev main_call2_v0 : Ref sig .tc := ⟨.hbm, 132, rfl⟩
abbrev main_call2_v1 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_v6 : Ref sig .tc := ⟨.hbm, 138, rfl⟩
abbrev main_call2_v7 : Ref sig .tc := ⟨.hbm, 139, rfl⟩
abbrev main_call2_v8 : Ref sig .tc := ⟨.hbm, 140, rfl⟩
abbrev main_call2_c : Ref sig .tc := ⟨.hbm, 141, rfl⟩
abbrev main_call2_v9 : Ref sig .tc := ⟨.hbm, 142, rfl⟩
abbrev main_call2_v10 : Ref sig .tc := ⟨.hbm, 143, rfl⟩
abbrev main_call2_v11 : Ref sig .tc := ⟨.hbm, 144, rfl⟩
abbrev main_call2_c_0 : Ref sig .tc := ⟨.hbm, 145, rfl⟩
abbrev main_call2_v12 : Ref sig .tc := ⟨.hbm, 146, rfl⟩
abbrev main_call2_v13 : Ref sig .tc := ⟨.hbm, 147, rfl⟩
abbrev main_v86 : Ref sig .tc := ⟨.hbm, 148, rfl⟩
abbrev main_c_23 : Ref sig .tc := ⟨.hbm, 149, rfl⟩
abbrev main_call3_v0 : Ref sig .tc := ⟨.hbm, 150, rfl⟩
abbrev main_call3_c : Ref sig .tc := ⟨.hbm, 151, rfl⟩
abbrev main_call3_v1 : Ref sig .tc := ⟨.hbm, 152, rfl⟩
abbrev main_call3_c_0 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_call3_c_1 : Ref sig .tc := ⟨.hbm, 157, rfl⟩
abbrev main_call3_v5 : Ref sig .tc := ⟨.hbm, 158, rfl⟩
abbrev main_call3_v6 : Ref sig .tc := ⟨.hbm, 159, rfl⟩
abbrev main_call3_c_2 : Ref sig .tc := ⟨.hbm, 160, rfl⟩
abbrev main_call3_v7 : Ref sig .tc := ⟨.hbm, 161, rfl⟩
abbrev main_call3_v8 : Ref sig .tc := ⟨.hbm, 162, rfl⟩
abbrev main_call3_c_3 : Ref sig .tc := ⟨.hbm, 163, rfl⟩
abbrev main_call3_v9 : Ref sig .tc := ⟨.hbm, 164, rfl⟩
abbrev main_call3_v10 : Ref sig .tc := ⟨.hbm, 165, rfl⟩
abbrev main_call3_v11 : Ref sig .tc := ⟨.hbm, 166, rfl⟩
abbrev main_call3_v12 : Ref sig .tc := ⟨.hbm, 167, rfl⟩
abbrev main_call3_v13 : Ref sig .tc := ⟨.hbm, 168, rfl⟩
abbrev main_call3_v14 : Ref sig .tc := ⟨.hbm, 169, rfl⟩
abbrev main_v87 : Ref sig .tc := ⟨.hbm, 170, rfl⟩
abbrev main_v88 : Ref sig .tc := ⟨.hbm, 171, rfl⟩
abbrev main_c_24 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_c_25 : Ref sig .tc := ⟨.hbm, 180, rfl⟩
abbrev main_v96 : Ref sig .tc := ⟨.hbm, 181, rfl⟩
abbrev main_call4_v0 : Ref sig .tc := ⟨.hbm, 182, rfl⟩
abbrev main_v97 : Ref sig .tc := ⟨.hbm, 183, rfl⟩
abbrev main_cst_26 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_cst_27 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_c_28 : Ref sig .tc := ⟨.hbm, 193, rfl⟩
abbrev main_v105 : Ref sig .tc := ⟨.hbm, 194, rfl⟩
abbrev main_v106 : Ref sig .tc := ⟨.hbm, 195, rfl⟩
abbrev main_c_29 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_cst_30 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_cst_31 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_cst_32 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_cst_33 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_c_34 : Ref sig .tc := ⟨.hbm, 235, rfl⟩
abbrev main_v141 : Ref sig .tc := ⟨.hbm, 236, rfl⟩
abbrev main_v142 : Ref sig .tc := ⟨.hbm, 237, rfl⟩
abbrev main_c_35 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_c_36 : Ref sig .tc := ⟨.hbm, 247, rfl⟩
abbrev main_v151 : Ref sig .tc := ⟨.hbm, 248, rfl⟩
abbrev main_v152 : Ref sig .tc := ⟨.hbm, 249, rfl⟩
abbrev main_c_37 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_cst_38 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_c_39 : Ref sig .tc := ⟨.hbm, 263, rfl⟩
abbrev main_v164 : Ref sig .tc := ⟨.hbm, 264, rfl⟩
abbrev main_v165 : Ref sig .tc := ⟨.hbm, 265, rfl⟩
abbrev main_c_40 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_cst_41 : Ref sig .tc := ⟨.hbm, 277, rfl⟩
abbrev main_v176 : Ref sig .tc := ⟨.hbm, 278, rfl⟩
abbrev main_v177 : Ref sig .tc := ⟨.hbm, 279, rfl⟩
abbrev main_v178 : Ref sig .tc := ⟨.hbm, 280, rfl⟩
abbrev main_cst_42 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_43 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_cst_44 : Ref sig .tc := ⟨.hbm, 297, rfl⟩
abbrev main_v193 : Ref sig .tc := ⟨.hbm, 298, rfl⟩
abbrev main_v194 : Ref sig .tc := ⟨.hbm, 299, rfl⟩
abbrev main_v195 : Ref sig .tc := ⟨.hbm, 300, rfl⟩
abbrev main_v196 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_c_45 : Ref sig .tc := ⟨.hbm, 305, rfl⟩
abbrev main_v200 : Ref sig .tc := ⟨.hbm, 306, rfl⟩
abbrev main_v201 : Ref sig .tc := ⟨.hbm, 307, rfl⟩
abbrev main_c_46 : Ref sig .tc := ⟨.hbm, 308, rfl⟩
abbrev main_v202 : Ref sig .tc := ⟨.hbm, 309, rfl⟩
abbrev main_v203 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_v209 : Ref sig .tc := ⟨.hbm, 316, rfl⟩
abbrev main_c_47 : Ref sig .tc := ⟨.hbm, 317, rfl⟩
abbrev main_v210 : Ref sig .tc := ⟨.hbm, 318, rfl⟩
abbrev main_v211 : Ref sig .tc := ⟨.hbm, 319, rfl⟩
abbrev main_c_48 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩
abbrev main_v218 : Ref sig .tc := ⟨.hbm, 327, rfl⟩
abbrev main_v219 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_cst_49 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_cst_50 : Ref sig .tc := ⟨.hbm, 336, rfl⟩
abbrev main_v226 : Ref sig .tc := ⟨.hbm, 337, rfl⟩
abbrev main_v227 : Ref sig .tc := ⟨.hbm, 338, rfl⟩
abbrev main_v228 : Ref sig .tc := ⟨.hbm, 339, rfl⟩
abbrev main_v229 : Ref sig .tc := ⟨.hbm, 340, rfl⟩
abbrev main_v230 : Ref sig .tc := ⟨.hbm, 341, rfl⟩
abbrev main_v231 : Ref sig .tc := ⟨.hbm, 342, rfl⟩
abbrev main_v232 : Ref sig .tc := ⟨.hbm, 343, rfl⟩
abbrev main_v233 : Ref sig .tc := ⟨.hbm, 344, rfl⟩
abbrev main_v234 : Ref sig .tc := ⟨.hbm, 345, rfl⟩
abbrev main_v235 : Ref sig .tc := ⟨.hbm, 346, rfl⟩
abbrev main_v236 : Ref sig .tc := ⟨.hbm, 347, rfl⟩
abbrev main_cst_51 : Ref sig .tc := ⟨.hbm, 348, rfl⟩
abbrev main_v237 : Ref sig .tc := ⟨.hbm, 349, rfl⟩
abbrev main_v238 : Ref sig .tc := ⟨.hbm, 350, rfl⟩
abbrev main_v239 : Ref sig .tc := ⟨.hbm, 351, rfl⟩
abbrev main_cst_52 : Ref sig .tc := ⟨.hbm, 352, rfl⟩
abbrev main_v240 : Ref sig .tc := ⟨.hbm, 353, rfl⟩
abbrev main_v241 : Ref sig .tc := ⟨.hbm, 354, rfl⟩
abbrev main_v242 : Ref sig .tc := ⟨.hbm, 355, rfl⟩
abbrev main_v243 : Ref sig .tc := ⟨.hbm, 356, rfl⟩
abbrev main_v244 : Ref sig .tc := ⟨.hbm, 357, rfl⟩
abbrev main_v245 : Ref sig .tc := ⟨.hbm, 358, rfl⟩
abbrev main_v246 : Ref sig .tc := ⟨.hbm, 359, rfl⟩
abbrev main_cst_53 : Ref sig .tc := ⟨.hbm, 360, rfl⟩
abbrev main_v247 : Ref sig .tc := ⟨.hbm, 361, rfl⟩
abbrev main_v248 : Ref sig .tc := ⟨.hbm, 362, rfl⟩
abbrev main_v249 : Ref sig .tc := ⟨.hbm, 363, rfl⟩
abbrev main_cst_54 : Ref sig .tc := ⟨.hbm, 364, rfl⟩
abbrev main_v250 : Ref sig .tc := ⟨.hbm, 365, rfl⟩
abbrev main_cst_55 : Ref sig .tc := ⟨.hbm, 366, rfl⟩
abbrev main_v251 : Ref sig .tc := ⟨.hbm, 367, rfl⟩
abbrev main_v252 : Ref sig .tc := ⟨.hbm, 368, rfl⟩
abbrev main_v253 : Ref sig .tc := ⟨.hbm, 369, rfl⟩
abbrev main_v254 : Ref sig .tc := ⟨.hbm, 370, rfl⟩
abbrev main_v255 : Ref sig .tc := ⟨.hbm, 371, rfl⟩

abbrev nD : Nat := 1
abbrev τ : Topo := Topo.v7x

variable {F : FTy → Type} [FloatOps F]
-- ==== Proof.KI.RouterBody.lean ====
/-
  The routing kernel's body at one grid point: what it leaves in its five buffers, as functions of what its buffers hold
  when it starts, and the proof that it runs to its return leaving exactly that.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Tactic
public import Idealize.ShloMosaic.Lib.VecWindow
public import Idealize.ShloMosaic.Lib.Pipeline.FrameBody
public import Idealize.ShloMosaic.Lib.ValueIdxCore

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The lane numbers 0 … 7 of every row. -/
abbrev lanes : IVec S1024x8 32 := iota .tc S1024x8 32 [1] iota_S1024x8_d1_w32
/-- The two probabilities of each of the block's tokens. -/
def probsOf (x : Vec F S1024x1024 .f32) (w : Vec F S1024x8 .f32) : Vec F S1024x2 .f32 := k0_pay17 (k0_pay8 x w) (k0_pay11 x w)
/-- The two experts each of the block's tokens chose. -/
def idxOf (x : Vec F S1024x1024 .f32) (w : Vec F S1024x8 .f32) : Vec F S1024x2 .i32 := k0_pay18 lanes (k0_pay9 x w) (k0_pay10 x w) (k0_pay11 x w)
/-- The first choice of each token as a row of zeros and a one. -/
def hot1 (x : Vec F S1024x1024 .f32) (w : Vec F S1024x8 .f32) : FVec F S1024x8 .f32 := k0_pay19 (F := F) lanes (k0_pay9 x w)
/-- The second choice of each token as a row of zeros and a one. -/
def hot2 (x : Vec F S1024x1024 .f32) (w : Vec F S1024x8 .f32) : FVec F S1024x8 .f32 := k0_pay20 lanes (k0_pay10 x w) (k0_pay11 x w)
/-- The running counts of the first choices down the block. -/
def run1 (x : Vec F S1024x1024 .f32) (w : Vec F S1024x8 .f32) : FVec F S1024x8 .f32 := k0_pay22 (k0_pay21 (F := F) lanes (k0_pay9 x w))
/-- The running counts of the second choices down the block. -/
def run2 (x : Vec F S1024x1024 .f32) (w : Vec F S1024x8 .f32) : FVec F S1024x8 .f32 := k0_pay23 (hot2 x w)
/-- The weights of the block's tokens for the eight experts, the counts before the block being `n`. -/
def gateOf (i : grid0.Coords) (x : Vec F S1024x1024 .f32) (w : Vec F S1024x8 .f32) (n : Vec F S2x8 .f32) : Vec F S1024x8 .f32 :=
  k0_pay25 (BitVec.ofNat 32 (i 0).val) (k0_pay15 (k0_pay8 x w) (k0_pay11 x w)) (k0_pay16 (k0_pay8 x w) (k0_pay11 x w))
    (hot1 x w) (hot2 x w) (run1 x w) (run2 x w) n
/-- The counts after the block, those before it being `n`. -/
def cntNext (i : grid0.Coords) (x : Vec F S1024x1024 .f32) (w : Vec F S1024x8 .f32) (n : Vec F S2x8 .f32) : Vec F S2x8 .f32 :=
  k0_pay1 (k0_pay24 (BitVec.ofNat 32 (i 0).val) n) (k0_pay26 (hot1 x w) (hot2 x w))
/-- The sum of squared log-sum-exps after the block, that before it being `z`. -/
def zNext (i : grid0.Coords) (x : Vec F S1024x1024 .f32) (w : Vec F S1024x8 .f32) (z : Vec F S1x1 .f32) : Vec F S1x1 .f32 :=
  fun _ => k0_pay7 i x w (z (ValueIdx.ix2 0 0))

set_option maxHeartbeats 2000000 in
/-- The body at grid point `i`, from its seven buffers held whole: it returns with the two inputs as they were and the
    other five at what the definitions above say. -/
theorem router_body (i : grid0.Coords) (c : Dev nD)
    (M1 : Memref sig .tc .vmem S1024x1024 .f32) (h1 : M1.IsWhole) (M2 : Memref sig .tc .vmem S1024x8 .f32) (h2 : M2.IsWhole)
    (M3 : Memref sig .tc .vmem S1024x2 .f32) (h3 : M3.IsWhole) (M4 : Memref sig .tc .vmem S1024x2 .i32) (h4 : M4.IsWhole)
    (M5 : Memref sig .tc .vmem S1024x8 .f32) (h5 : M5.IsWhole) (M6 : Memref sig .tc .smem S1x1 .f32) (h6 : M6.IsWhole)
    (M7 : Memref sig .tc .vmem S2x8 .f32) (h7 : M7.IsWhole)
    (x : Vec F S1024x1024 .f32) (w : Vec F S1024x8 .f32) (p : Vec F S1024x2 .f32) (d : Vec F S1024x2 .i32)
    (g : Vec F S1024x8 .f32) (z : Vec F S1x1 .f32) (n : Vec F S2x8 .f32) (E : Set ℕ) (Q : PUnit → sProp 𝕄) :
    iprop(owns (c : Thread nD τ) M1 fullShare x ∗ owns (c : Thread nD τ) M2 fullShare w ∗ owns (c : Thread nD τ) M3 fullShare p ∗ owns (c : Thread nD τ) M4 fullShare d ∗ owns (c : Thread nD τ) M5 fullShare g ∗ owns (c : Thread nD τ) M6 fullShare z ∗ owns (c : Thread nD τ) M7 fullShare n
      ∗ (iprop(owns (c : Thread nD τ) M1 fullShare x ∗ owns (c : Thread nD τ) M2 fullShare w ∗ owns (c : Thread nD τ) M3 fullShare (probsOf x w) ∗ owns (c : Thread nD τ) M4 fullShare (idxOf x w) ∗ owns (c : Thread nD τ) M5 fullShare (gateOf i x w n) ∗ owns (c : Thread nD τ) M6 fullShare (zNext i x w z) ∗ owns (c : Thread nD τ) M7 fullShare (cntNext i x w n)) -∗ Q ⟨⟩))
      ⊢ wp frame (wpE (defs₀ (F := F)) Variants.none c none) E
          (cc0__router_kernel i M1 h1 M2 h2 M3 h3 M4 h4 M5 h5 M6 h6 M7 h7) Q := by
  rw [cc0__router_kernel_eq_skeleton]
  unfold cc0__router_kernel_skel
  rw [k0_part1_eq_skeleton, k0_part2_eq_skeleton, k0_part3_eq_skeleton, k0_part4_eq_skeleton]
  unfold k0_part1_skel k0_part2_skel k0_part3_skel k0_part4_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  subst e1 e2 e3 e4 e5 e6 e7
  sl_exec!
  sl_step
  iapply Hk
  isplitl [H1]; · iexists _; isplitr; swap; (· iexact H1); ipureintro; rfl
  isplitl [H2]; · iexists _; isplitr; swap; (· iexact H2); ipureintro; rfl
  isplitl [H3]
  · iexists _; isplitr; swap; (· iexact H3)
    ipureintro
    unfold router_body.sl.H3_1 probsOf
    rw [View.read_writes_full]
    dsimp only
    rw [View.readAt_full M1.view f1 inb_S1024x1024_S1024x1024_0_0, View.readAt_full M2.view f2 inb_S1024x8_S1024x8_0_0]
  isplitl [H4]
  · iexists _; isplitr; swap; (· iexact H4)
    ipureintro
    unfold router_body.sl.H4_1 idxOf
    rw [View.read_writes_full]
    dsimp only
    rw [View.readAt_full M1.view f1 inb_S1024x1024_S1024x1024_0_0, View.readAt_full M2.view f2 inb_S1024x8_S1024x8_0_0]
    rfl
  isplitl [H5]
  · iexists _; isplitr; swap; (· iexact H5)
    ipureintro
    unfold router_body.sl.H5_1 gateOf
    rw [View.read_writes_full]
    dsimp only
    rw [View.readAt_full M1.view f1 inb_S1024x1024_S1024x1024_0_0, View.readAt_full M2.view f2 inb_S1024x8_S1024x8_0_0, View.readAt_full M7.view f7 inb_S2x8_S2x8_0_0]
    rfl
  isplitl [H6]
  · iexists _; isplitr; swap; (· iexact H6)
    ipureintro
    unfold router_body.sl.H6_1 zNext
    rw [View.read_writes_full]
    dsimp only
    rw [View.readAt_full M1.view f1 inb_S1024x1024_S1024x1024_0_0, View.readAt_full M2.view f2 inb_S1024x8_S1024x8_0_0]
    unfold router_body.sl.r
    rw [View.readAt_full M6.view f6 inb_S1x1_S1x1_0_0]
    funext _
    exact congrArg (k0_pay7 i _ _) (congrArg (View.read (Elt F) M6.view f6) (funext fun a => by fin_cases a <;> exact Subsingleton.elim (α := Fin 1) _ _))
  iexists _; isplitr; swap; (· iexact H7)
  ipureintro
  unfold router_body.sl.H7_1 cntNext
  rw [View.read_writes_full]
  dsimp only
  rw [View.readAt_full M1.view f1 inb_S1024x1024_S1024x1024_0_0, View.readAt_full M2.view f2 inb_S1024x8_S1024x8_0_0, View.readAt_full M7.view f7 inb_S2x8_S2x8_0_0]
  rfl

end Cert.KernelIdeal.Own

end
-- ==== Proof.KI.ExpertBody.lean ====
/-
  The expert kernel's body at one grid point: what it leaves in its two buffers, as functions of what its buffers hold
  when it starts, and the proof that it runs to its return leaving exactly that.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Tactic
public import Idealize.ShloMosaic.Lib.VecWindow
public import Idealize.ShloMosaic.Lib.Pipeline.FrameBody

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row of first-layer biases the point reads: expert `i 1`, hidden units `512 * i 2` onwards. -/
abbrev biasRow (i : grid1.Coords) (x6 : Vec F S9x4096 .f32) : Vec F S1x512 .f32 :=
  View.ld x6 (Rect.unit (s := S9x4096) (k1_off1 i) S1x512.size (k1_off1_inb i))
/-- The second-layer bias row of expert `i 1`. -/
abbrev bias2Row (i : grid1.Coords) (x7 : Vec F S9x1024 .f32) : Vec F S1x1024 .f32 :=
  View.ld x7 (Rect.unit (s := S9x1024) (k1_off4 i) S1x1024.size (k1_off4_inb i))
/-- The down-projection of expert `i 1`. -/
abbrev downMat (i : grid1.Coords) (x8 : Vec F S9x32x1024 .bf16) : Vec F S1x32x1024 .bf16 :=
  View.ld x8 (Rect.unit (s := S9x32x1024) (k1_off2 i) S1x32x1024.size (k1_off2_inb i))
/-- The up-projection of expert `i 1`. -/
abbrev upMat (i : grid1.Coords) (x9 : Vec F S9x1024x32 .bf16) : Vec F S1x1024x32 .bf16 :=
  View.ld x9 (Rect.unit (s := S9x1024x32) (k1_off3 i) S1x1024x32.size (k1_off3_inb i))

/-- What the point leaves in the accumulator of one expert's output, which holds `acc` when it starts. -/
def accNext (i : grid1.Coords) (x3 : Vec F S1024x1024 .bf16) (x4 : Vec F S1x512x1024 .bf16) (x5 : Vec F S1x1024x512 .bf16)
    (x6 : Vec F S9x4096 .f32) (x7 : Vec F S9x1024 .f32) (x8 : Vec F S9x32x1024 .bf16) (x9 : Vec F S9x1024x32 .bf16)
    (acc : Vec F S1024x1024 .f32) : Vec F S1024x1024 .f32 :=
  k1_pay2 (BitVec.ofNat 32 (i 2).val) (k1_pay5 x3 x4 (biasRow i x6) x5) (k1_pay6 (upMat i x9)) (k1_pay8 x3 (downMat i x8))
    (k1_pay9 x3 (downMat i x8)) (bias2Row i x7) acc

/-- What a point with the last hidden block leaves in the output block, which holds `o` when it starts. -/
def outNext (i : grid1.Coords) (x3 : Vec F S1024x1024 .bf16) (x4 : Vec F S1x512x1024 .bf16) (x5 : Vec F S1x1024x512 .bf16)
    (x6 : Vec F S9x4096 .f32) (x7 : Vec F S9x1024 .f32) (x8 : Vec F S9x32x1024 .bf16) (x9 : Vec F S9x1024x32 .bf16)
    (x10 : Vec F S1024x9 .f32) (acc o : Vec F S1024x1024 .f32) : Vec F S1024x1024 .f32 :=
  k1_pay3 (BitVec.ofNat 32 (i 1).val) (BitVec.ofNat 32 (i 2).val) (k1_pay5 x3 x4 (biasRow i x6) x5) (k1_pay6 (upMat i x9))
    (k1_pay8 x3 (downMat i x8)) (k1_pay9 x3 (downMat i x8)) (bias2Row i x7) acc x10 o

set_option maxHeartbeats 2000000 in
/-- The body at grid point `i`, from its ten buffers held whole: it returns with the eight inputs as they were, the
    accumulator at `accNext`, and the output block at `outNext` when the point has the last hidden block, else untouched. -/
theorem expert_body (i : grid1.Coords) (c : Dev nD)
    (M3 : Memref sig .tc .vmem S1024x1024 .bf16) (h3 : M3.IsWhole) (M4 : Memref sig .tc .vmem S1x512x1024 .bf16) (h4 : M4.IsWhole)
    (M5 : Memref sig .tc .vmem S1x1024x512 .bf16) (h5 : M5.IsWhole) (M6 : Memref sig .tc .vmem S9x4096 .f32) (h6 : M6.IsWhole)
    (M7 : Memref sig .tc .vmem S9x1024 .f32) (h7 : M7.IsWhole) (M8 : Memref sig .tc .vmem S9x32x1024 .bf16) (h8 : M8.IsWhole)
    (M9 : Memref sig .tc .vmem S9x1024x32 .bf16) (h9 : M9.IsWhole) (M10 : Memref sig .tc .vmem S1024x9 .f32) (h10 : M10.IsWhole)
    (M11 : Memref sig .tc .vmem S1024x1024 .f32) (h11 : M11.IsWhole) (M12 : Memref sig .tc .vmem S1024x1024 .f32) (h12 : M12.IsWhole)
    (x3 : Vec F S1024x1024 .bf16) (x4 : Vec F S1x512x1024 .bf16) (x5 : Vec F S1x1024x512 .bf16)
    (x6 : Vec F S9x4096 .f32) (x7 : Vec F S9x1024 .f32) (x8 : Vec F S9x32x1024 .bf16) (x9 : Vec F S9x1024x32 .bf16)
    (x10 : Vec F S1024x9 .f32) (o acc : Vec F S1024x1024 .f32) (E : Set ℕ) (Q : PUnit → sProp 𝕄) :
    iprop(owns (c : Thread nD τ) M3 fullShare x3 ∗ owns (c : Thread nD τ) M4 fullShare x4 ∗ owns (c : Thread nD τ) M5 fullShare x5
      ∗ owns (c : Thread nD τ) M6 fullShare x6 ∗ owns (c : Thread nD τ) M7 fullShare x7 ∗ owns (c : Thread nD τ) M8 fullShare x8
      ∗ owns (c : Thread nD τ) M9 fullShare x9 ∗ owns (c : Thread nD τ) M10 fullShare x10 ∗ owns (c : Thread nD τ) M11 fullShare o
      ∗ owns (c : Thread nD τ) M12 fullShare acc
      ∗ (iprop(owns (c : Thread nD τ) M3 fullShare x3 ∗ owns (c : Thread nD τ) M4 fullShare x4 ∗ owns (c : Thread nD τ) M5 fullShare x5
          ∗ owns (c : Thread nD τ) M6 fullShare x6 ∗ owns (c : Thread nD τ) M7 fullShare x7 ∗ owns (c : Thread nD τ) M8 fullShare x8
          ∗ owns (c : Thread nD τ) M9 fullShare x9 ∗ owns (c : Thread nD τ) M10 fullShare x10
          ∗ owns (c : Thread nD τ) M11 fullShare (if k1_cond1 i = 1#1 then outNext i x3 x4 x5 x6 x7 x8 x9 x10 acc o else o)
          ∗ owns (c : Thread nD τ) M12 fullShare (accNext i x3 x4 x5 x6 x7 x8 x9 acc)) -∗ Q ⟨⟩))
      ⊢ wp frame (wpE (defs₀ (F := F)) Variants.none c none) E
          (cc1__expert_kernel i M3 h3 M4 h4 M5 h5 M6 h6 M7 h7 M8 h8 M9 h9 M10 h10 M11 h11 M12 h12) Q := by
  rw [cc1__expert_kernel_eq_skeleton]
  unfold cc1__expert_kernel_skel
  rw [k1_part1_eq_skeleton]
  unfold k1_part1_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, Hk⟩
  subst e3 e4 e5 e6 e7 e8 e9 e10 e11 e12
  by_cases hc : k1_cond1 i = 1#1
  · simp only [if_pos hc]
    sl_exec!
    sl_step
    iapply Hk
    isplitl [H3]; · iexists _; isplitr; swap; (· iexact H3); ipureintro; rfl
    isplitl [H4]; · iexists _; isplitr; swap; (· iexact H4); ipureintro; rfl
    isplitl [H5]; · iexists _; isplitr; swap; (· iexact H5); ipureintro; rfl
    isplitl [H6]; · iexists _; isplitr; swap; (· iexact H6); ipureintro; rfl
    isplitl [H7]; · iexists _; isplitr; swap; (· iexact H7); ipureintro; rfl
    isplitl [H8]; · iexists _; isplitr; swap; (· iexact H8); ipureintro; rfl
    isplitl [H9]; · iexists _; isplitr; swap; (· iexact H9); ipureintro; rfl
    isplitl [H10]; · iexists _; isplitr; swap; (· iexact H10); ipureintro; rfl
    isplitl [H11]
    · iexists _; isplitr; swap; (· iexact H11)
      ipureintro
      unfold expert_body.sl.H11_1 outNext
      rw [View.read_writes_full]
      dsimp only
      rw [View.readAt_full M3.view f3 inb_S1024x1024_S1024x1024_0_0, View.readAt_full M4.view f4 inb_S1x512x1024_S1x512x1024_0_0_0, View.readAt_full M5.view f5 inb_S1x1024x512_S1x1024x512_0_0_0, View.readAt_full M12.view f12 inb_S1024x1024_S1024x1024_0_0, View.readAt_full M10.view f10 inb_S1024x9_S1024x9_0_0, View.readAt_full M11.view f11 inb_S1024x1024_S1024x1024_0_0]
      rfl
    · iexists _; isplitr; swap; (· iexact H12)
      ipureintro
      unfold expert_body.sl.H12_1 accNext
      rw [View.read_writes_full]
      dsimp only
      rw [View.readAt_full M3.view f3 inb_S1024x1024_S1024x1024_0_0, View.readAt_full M4.view f4 inb_S1x512x1024_S1x512x1024_0_0_0, View.readAt_full M5.view f5 inb_S1x1024x512_S1x1024x512_0_0_0, View.readAt_full M12.view f12 inb_S1024x1024_S1024x1024_0_0]
      rfl
  · simp only [if_neg hc]
    sl_exec!
    sl_step
    iapply Hk
    isplitl [H3]; · iexists _; isplitr; swap; (· iexact H3); ipureintro; rfl
    isplitl [H4]; · iexists _; isplitr; swap; (· iexact H4); ipureintro; rfl
    isplitl [H5]; · iexists _; isplitr; swap; (· iexact H5); ipureintro; rfl
    isplitl [H6]; · iexists _; isplitr; swap; (· iexact H6); ipureintro; rfl
    isplitl [H7]; · iexists _; isplitr; swap; (· iexact H7); ipureintro; rfl
    isplitl [H8]; · iexists _; isplitr; swap; (· iexact H8); ipureintro; rfl
    isplitl [H9]; · iexists _; isplitr; swap; (· iexact H9); ipureintro; rfl
    isplitl [H10]; · iexists _; isplitr; swap; (· iexact H10); ipureintro; rfl
    isplitl [H11]; · iexists _; isplitr; swap; (· iexact H11); ipureintro; rfl
    iexists _; isplitr; swap; (· iexact H12)
    ipureintro
    unfold expert_body.sl.H12_1_1 accNext
    rw [View.read_writes_full]
    dsimp only
    rw [View.readAt_full M3.view f3 inb_S1024x1024_S1024x1024_0_0, View.readAt_full M4.view f4 inb_S1x512x1024_S1x512x1024_0_0_0, View.readAt_full M5.view f5 inb_S1x1024x512_S1x1024x512_0_0_0, View.readAt_full M12.view f12 inb_S1024x1024_S1024x1024_0_0]
    rfl

end Cert.KernelIdeal.Own

end
-- ==== Proof.KI.ExpertRegion.lean ====
/-
  The expert kernel's region: what its two buffers hold from grid point to grid point, its proof data, and the proof
  that the body keeps to them.
-/
module

public import proofs.«01_k».proof.Proof.KI.ExpertBody
public import Idealize.ShloMosaic.Lib.Pipeline.TableIdle
public import Idealize.ShloMosaic.Lib.Pipeline.RegionArraysS

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The block of window `w` at point `t`, read off the window's array. -/
abbrev blk1 (c : Dev nD) (w : Fin cfg1.W) (t : Fin cfg1.N) :
    ((cfg1.win w).xblock (cfg1.grid.coords t)).Idx → Elt F (cfg1.win w).elt :=
  ((cfg1.win w).blk t).view.read (Elt F) (V c (Proc.devRef .tc (Pipeline.arrRef spec1 w)))

/-- What the accumulator holds before point `n`, from the first point on. -/
def accAt (c : Dev nD) : ℕ → Vec F S1024x1024 .f32
  | 0 => constant S1024x1024 .f32 0x00000000#32
  | n + 1 => if h : n < cfg1.N then
      accNext (grid1.coords ⟨n, h⟩) (blk1 V c 0 ⟨n, h⟩) (blk1 V c 1 ⟨n, h⟩) (blk1 V c 2 ⟨n, h⟩) (blk1 V c 3 ⟨n, h⟩)
        (blk1 V c 4 ⟨n, h⟩) (blk1 V c 5 ⟨n, h⟩) (blk1 V c 6 ⟨n, h⟩) (accAt c n)
    else accAt c n

/-- What the output block's buffer holds before point `n`. -/
def outAt (c : Dev nD) : ℕ → Vec F S1024x1024 .f32
  | 0 => constant S1024x1024 .f32 0x00000000#32
  | n + 1 => if h : n < cfg1.N then
      if k1_cond1 (grid1.coords ⟨n, h⟩) = 1#1 then
        outNext (grid1.coords ⟨n, h⟩) (blk1 V c 0 ⟨n, h⟩) (blk1 V c 1 ⟨n, h⟩) (blk1 V c 2 ⟨n, h⟩) (blk1 V c 3 ⟨n, h⟩)
          (blk1 V c 4 ⟨n, h⟩) (blk1 V c 5 ⟨n, h⟩) (blk1 V c 6 ⟨n, h⟩) (blk1 V c 7 ⟨n, h⟩) (accAt V c n) (outAt c n)
      else outAt c n
    else outAt c n

/-- Buffer `r` held whole at something. -/
abbrev anyAt (c : Dev nD) (r : Ref sig .tc) : sProp 𝕄 :=
  iprop(∃ f : Buf (Elt F) ((c : Thread nD τ).loc r), ((c : Thread nD τ).loc r) ↦{fullShare} f)

/-- The scoped buffers that are neither a window's nor the accumulator. -/
abbrev others1 (c : Dev nD) : sProp 𝕄 :=
  iprop(anyAt c cc0_stg0_0 ∗ anyAt c cc0_stg0_1 ∗ anyAt c cc0_stg1_0 ∗ anyAt c cc0_stg2_0 ∗ anyAt c cc0_stg2_1 ∗ anyAt c cc0_stg3_0 ∗ anyAt c cc0_stg3_1 ∗ anyAt c cc0_stg4_0 ∗ anyAt c cc0_stg4_1 ∗ anyAt c cc0_scratch0 ∗ anyAt c cc0_stg5_0)

/-- Between points: the other scoped buffers at something, and the accumulator, which within an expert's hidden blocks
    holds what the blocks so far came to. -/
def Φ1 (c : Dev nD) (n : ℕ) : sProp 𝕄 :=
  iprop(others1 c ∗ ∃ X, ⌜n % 8 ≠ 0 → X = accAt V c n⌝ ∗ owns (c : Thread nD τ) (Memref.whole cc1_scratch0) fullShare X)

/-- The expert region's proof data, entered from the contents `V`. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => outAt V c (t.val + 1)
  Φ t := Φ1 V c t.val
  q _ := fullShare
  owed _ := 0

/-! Each input window's buffer holds its block at every point. -/

theorem before1_0 (c : Dev nD) (t : Fin cfg1.N) (d) : (dat1 V c).before 0 t d = blk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = blk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = blk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = blk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = blk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = blk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = blk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = blk1 V c 7 t :=
  ((dat1 V c).before_in_eq_fetched 7 rfl (fun _ => rfl) (fun _ _ _ => rfl) (fun _ => rfl) t d).trans rfl

/-- The three coordinates of a point. -/
theorem coord1_0 : ∀ t : Fin cfg1.N, (grid1.coords t 0).val = t.val / 72 := by decide +kernel
theorem coord1_1 : ∀ t : Fin cfg1.N, (grid1.coords t 1).val = t.val / 8 % 9 := by decide +kernel
theorem coord1_2 : ∀ t : Fin cfg1.N, (grid1.coords t 2).val = t.val % 8 := by decide +kernel
/-- The points that write the output block: those of a last hidden block. -/
theorem cond1_iff : ∀ t : Fin cfg1.N, k1_cond1 (grid1.coords t) = 1#1 ↔ t.val % 8 = 7 := by decide +kernel
theorem idle1_8 : ∀ t : Fin cfg1.N, cfg1.idle 8 (grid1.coords t) = !decide (t.val % 8 = 7) := by decide +kernel

/-- The output block's buffer is anybody's until the first point that writes it. -/
theorem fresh1_8 : ∀ n, n ≤ cfg1.N → cfg1.fresh 8 n = decide (n % 72 ≤ 7) :=
  Pipeline.Cfg.fresh_tab cfg1 8 (fun n => decide (n % 72 ≤ 7)) rfl fun t => by
    rw [idle1_8 t, Bool.eq_iff_iff]
    have := flush1_8 t
    simp only [Bool.or_eq_true, this, decide_eq_true_eq, Bool.and_eq_true, Bool.not_eq_true', decide_eq_false_iff_not]
    omega

/-- At a first hidden block what the accumulator held is not looked at. -/
theorem accNext_first (i : grid1.Coords) (h : (i 2).val = 0) (x3 : Vec F S1024x1024 .bf16) (x4 : Vec F S1x512x1024 .bf16) (x5 : Vec F S1x1024x512 .bf16)
    (x6 : Vec F S9x4096 .f32) (x7 : Vec F S9x1024 .f32) (x8 : Vec F S9x32x1024 .bf16) (x9 : Vec F S9x1024x32 .bf16)
    (X Y : Vec F S1024x1024 .f32) : accNext i x3 x4 x5 x6 x7 x8 x9 X = accNext i x3 x4 x5 x6 x7 x8 x9 Y := by
  unfold accNext
  rw [h]
  rfl

/-- At the first expert what the output block held is not looked at. -/
theorem outNext_first (i : grid1.Coords) (h : (i 1).val = 0) (x3 : Vec F S1024x1024 .bf16) (x4 : Vec F S1x512x1024 .bf16) (x5 : Vec F S1x1024x512 .bf16)
    (x6 : Vec F S9x4096 .f32) (x7 : Vec F S9x1024 .f32) (x8 : Vec F S9x32x1024 .bf16) (x9 : Vec F S9x1024x32 .bf16)
    (x10 : Vec F S1024x9 .f32) (acc X Y : Vec F S1024x1024 .f32) :
    outNext i x3 x4 x5 x6 x7 x8 x9 x10 acc X = outNext i x3 x4 x5 x6 x7 x8 x9 x10 acc Y := by
  unfold outNext
  rw [h]
  rfl

/-- What the output block's buffer holds when a point starts. -/
theorem before1_8 (c : Dev nD) (t : Fin cfg1.N) (d) :
    (dat1 V c).before 8 t d = if t.val % 72 ≤ 7 then d else outAt V c t.val := by
  have h := (dat1 V c).before_out_traj 8 rfl (fun _ _ => rfl) (fun t ht hi _ => by
    rw [idle1_8 t] at hi
    have hc : ¬ k1_cond1 (grid1.coords t) = 1#1 := by rw [cond1_iff t]; simpa using hi
    have hn : t.val - 1 + 1 = t.val := by omega
    show outAt V c (t.val + 1) = outAt V c (t.val - 1 + 1)
    rw [hn]
    conv_lhs => unfold outAt
    rw [dif_pos t.isLt, if_neg hc]) t.val t rfl d
  rw [h, fresh1_8 t.val (Nat.le_of_lt t.isLt)]
  by_cases h7 : t.val % 72 ≤ 7
  · rw [if_pos h7, if_pos (decide_eq_true h7)]
  · rw [if_neg h7, if_neg (by simpa using h7)]
    have hn : t.val - 1 + 1 = t.val := by omega
    show outAt V c (t.val - 1 + 1) = _
    rw [hn]

/-- The accumulator after a point, from the one before it. -/
theorem accAt_succ (c : Dev nD) (t : Fin cfg1.N) :
    accAt V c (t.val + 1) = accNext (grid1.coords t) (blk1 V c 0 t) (blk1 V c 1 t) (blk1 V c 2 t) (blk1 V c 3 t)
        (blk1 V c 4 t) (blk1 V c 5 t) (blk1 V c 6 t) (accAt V c t.val) := by
  conv_lhs => unfold accAt
  rw [dif_pos t.isLt]

/-- The output block's buffer after a point, from the one before it. -/
theorem outAt_succ (c : Dev nD) (t : Fin cfg1.N) :
    outAt V c (t.val + 1) = if k1_cond1 (grid1.coords t) = 1#1 then
        outNext (grid1.coords t) (blk1 V c 0 t) (blk1 V c 1 t) (blk1 V c 2 t) (blk1 V c 3 t)
          (blk1 V c 4 t) (blk1 V c 5 t) (blk1 V c 6 t) (blk1 V c 7 t) (accAt V c t.val) (outAt V c t.val)
      else outAt V c t.val := by
  conv_lhs => unfold outAt
  rw [dif_pos t.isLt]

set_option maxHeartbeats 1000000 in
set_option backward.isDefEq.respectTransparency.types false in
/-- The body at every point keeps to the data. -/
theorem body_obligation1 (c : Dev nD) : BodyObligation (dat1 V c) (defs₀ (F := F)) Variants.none () Set.univ := fun t => by
  rw [bigSep_W1, bigSep_W1]
  rw [show (dat1 V c).Φ t.castSucc = Φ1 V c t.val from rfl, show (dat1 V c).Φ t.succ = Φ1 V c (t.val + 1) from rfl,
    show (dat1 V c).owesAt () t.succ = (dat1 V c).owesAt () t.castSucc from rfl]
  unfold Φ1
  iintro ⟨⟨Hoth, %X, %hX, HX⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before1_0, before1_1, before1_2, before1_3, before1_4, before1_5, before1_6, before1_7, before1_8]
  have hacc : accNext (grid1.coords t) (blk1 V c 0 t) (blk1 V c 1 t) (blk1 V c 2 t) (blk1 V c 3 t)
        (blk1 V c 4 t) (blk1 V c 5 t) (blk1 V c 6 t) X = accAt V c (t.val + 1) := by
    rw [accAt_succ]
    by_cases h : t.val % 8 = 0
    · exact accNext_first _ ((coord1_2 t).trans h) _ _ _ _ _ _ _ _ _
    · rw [hX h]
  iapply (expert_body (F := F) (grid1.coords t) c _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (if t.val % 72 ≤ 7 then d8 else outAt V c t.val) X Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HX]; · iexact HX
  iintro ⟨H0, H1, H2, H3, H4, H5, H6, H7, H8, HX⟩
  rw [hacc]
  isplitl [Hoth HX]
  · isplitl [Hoth]; · iexact Hoth
    iexists _; isplitr; swap; (· iexact HX)
    ipureintro; exact fun _ => rfl
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  by_cases h7 : t.val % 8 = 7
  · rw [show cfg1.idle 8 (grid1.coords t) = false from by rw [idle1_8 t, decide_eq_true h7]; rfl]
    have hval : (if k1_cond1 (grid1.coords t) = 1#1 then outNext (grid1.coords t) (blk1 V c 0 t) (blk1 V c 1 t) (blk1 V c 2 t)
        (blk1 V c 3 t) (blk1 V c 4 t) (blk1 V c 5 t) (blk1 V c 6 t) (blk1 V c 7 t) X
          (if t.val % 72 ≤ 7 then d8 else outAt V c t.val) else (if t.val % 72 ≤ 7 then d8 else outAt V c t.val))
        = outAt V c (t.val + 1) := by
      rw [outAt_succ, if_pos ((cond1_iff t).mpr h7), if_pos ((cond1_iff t).mpr h7), hX (by omega)]
      by_cases h : t.val % 72 ≤ 7
      · exact outNext_first _ ((coord1_1 t).trans (by omega)) _ _ _ _ _ _ _ _ _ _ _
      · rw [if_neg h]
    rw [hval]
    iexact H8
  · rw [show cfg1.idle 8 (grid1.coords t) = true from by rw [idle1_8 t, decide_eq_false h7]; rfl, if_neg (fun h => h7 ((cond1_iff t).mp h)),
      show (cfg1.win 8).flush t = false from by
        rw [← Bool.not_eq_true, flush1_8 t]; omega]
    iexists d8
    rw [before1_8]
    iexact H8

end Cert.KernelIdeal.Own

end
-- ==== Proof.KI.RouterRegion.lean ====
/-
  The routing kernel's region: what its carried buffers hold from grid point to grid point, its proof data, and the
  proof that the body keeps to them.
-/
module

public import proofs.«01_k».proof.Proof.KI.RouterBody
public import proofs.«01_k».proof.Proof.KI.ExpertRegion

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The block of window `w` at point `t`, read off the window's array. -/
abbrev blk0 (c : Dev nD) (w : Fin cfg0.W) (t : Fin cfg0.N) :
    ((cfg0.win w).xblock (cfg0.grid.coords t)).Idx → Elt F (cfg0.win w).elt :=
  ((cfg0.win w).blk t).view.read (Elt F) (V c (Proc.devRef .tc (Pipeline.arrRef spec0 w)))

/-- The counts of the tokens sent to each expert by the blocks before block `n`. -/
def cntAt (c : Dev nD) : ℕ → Vec F S2x8 .f32
  | 0 => constant S2x8 .f32 0x00000000#32
  | n + 1 => if h : n < cfg0.N then cntNext (grid0.coords ⟨n, h⟩) (blk0 V c 0 ⟨n, h⟩) (blk0 V c 1 ⟨n, h⟩) (cntAt c n) else cntAt c n

/-- The sum of the squared log-sum-exps of the blocks before block `n`. -/
def zAt (c : Dev nD) : ℕ → Vec F S1x1 .f32
  | 0 => constant S1x1 .f32 0x00000000#32
  | n + 1 => if h : n < cfg0.N then zNext (grid0.coords ⟨n, h⟩) (blk0 V c 0 ⟨n, h⟩) (blk0 V c 1 ⟨n, h⟩) (zAt c n) else zAt c n

/-- The scoped buffers that are neither a window's nor the counts. -/
abbrev others0 (c : Dev nD) : sProp 𝕄 :=
  iprop(anyAt c cc1_stg0_0 ∗ anyAt c cc1_stg0_1 ∗ anyAt c cc1_stg1_0 ∗ anyAt c cc1_stg1_1 ∗ anyAt c cc1_stg2_0
    ∗ anyAt c cc1_stg2_1 ∗ anyAt c cc1_stg3_0 ∗ anyAt c cc1_stg4_0 ∗ anyAt c cc1_stg5_0 ∗ anyAt c cc1_stg6_0
    ∗ anyAt c cc1_stg7_0 ∗ anyAt c cc1_stg7_1 ∗ anyAt c cc1_stg8_0 ∗ anyAt c cc1_stg8_1 ∗ anyAt c cc1_scratch0)

/-- Between points: the other scoped buffers at something, and the counts, which after the first point are those of
    the blocks so far. -/
def Φ0 (c : Dev nD) (n : ℕ) : sProp 𝕄 :=
  iprop(others0 c ∗ ∃ X, ⌜n ≠ 0 → X = cntAt V c n⌝ ∗ owns (c : Thread nD τ) (Memref.whole cc0_scratch0) fullShare X)

/-- The routing region's proof data, entered from the contents `V`. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => probsOf (blk0 V c 0 t) (blk0 V c 1 t)
    | ⟨3, _⟩ => idxOf (blk0 V c 0 t) (blk0 V c 1 t)
    | ⟨4, _⟩ => gateOf (grid0.coords t) (blk0 V c 0 t) (blk0 V c 1 t) (cntAt V c t.val)
    | ⟨5, _⟩ => zAt V c (t.val + 1)
  Φ t := Φ0 V c t.val
  q _ := fullShare
  owed _ := 0

/-! Each input window's buffer holds its block at every point. -/

theorem before0_0 (c : Dev nD) (t : Fin cfg0.N) (d) : (dat0 V c).before 0 t d = blk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = blk0 V c 1 t :=
  ((dat0 V c).before_in_eq_fetched 1 rfl (fun _ => rfl) (fun _ _ _ => rfl) (fun _ => rfl) t d).trans rfl

/-- The coordinate of a point. -/
theorem coord0_0 : ∀ t : Fin cfg0.N, (grid0.coords t 0).val = t.val := by decide +kernel

/-- At the first block the counts the buffer held are not looked at. -/
theorem gateOf_first (i : grid0.Coords) (h : (i 0).val = 0) (x : Vec F S1024x1024 .f32) (w : Vec F S1024x8 .f32)
    (X Y : Vec F S2x8 .f32) : gateOf i x w X = gateOf i x w Y := by
  unfold gateOf
  rw [h]
  rfl

theorem cntNext_first (i : grid0.Coords) (h : (i 0).val = 0) (x : Vec F S1024x1024 .f32) (w : Vec F S1024x8 .f32)
    (X Y : Vec F S2x8 .f32) : cntNext i x w X = cntNext i x w Y := by
  unfold cntNext
  rw [h]
  rfl

/-- At the first block the sum the buffer held is not looked at. -/
theorem zNext_first (i : grid0.Coords) (h : (i 0).val = 0) (x : Vec F S1024x1024 .f32) (w : Vec F S1024x8 .f32)
    (X Y : Vec F S1x1 .f32) : zNext i x w X = zNext i x w Y := by
  unfold zNext k0_pay7
  dsimp only
  rw [h]
  rfl

/-- What the sum's buffer holds when a point starts. -/
theorem before0_5 (c : Dev nD) (t : Fin cfg0.N) (d) :
    (dat0 V c).before 5 t d = if t.val = 0 then d else zAt V c t.val := by
  have hN : t.val < 4 := t.isLt
  by_cases h : t.val = 0
  · rw [if_pos h]
    exact (dat0 V c).before_out_reset 5 rfl t (.inl h) d
  · rw [if_neg h, (dat0 V c).before_out_kept 5 rfl t h (by
      rw [← Bool.not_eq_true, flush0_5]
      show ¬ (t.val - 1) % 4 = 3
      omega) (fun _ => rfl) (fun _ _ => rfl) d]
    have hn : t.val - 1 + 1 = t.val := by omega
    show zAt V c (t.val - 1 + 1) = _
    rw [hn]

theorem cntAt_succ (c : Dev nD) (t : Fin cfg0.N) :
    cntAt V c (t.val + 1) = cntNext (grid0.coords t) (blk0 V c 0 t) (blk0 V c 1 t) (cntAt V c t.val) := by
  conv_lhs => unfold cntAt
  rw [dif_pos t.isLt]

theorem zAt_succ (c : Dev nD) (t : Fin cfg0.N) :
    zAt V c (t.val + 1) = zNext (grid0.coords t) (blk0 V c 0 t) (blk0 V c 1 t) (zAt V c t.val) := by
  conv_lhs => unfold zAt
  rw [dif_pos t.isLt]

set_option maxHeartbeats 1000000 in
set_option backward.isDefEq.respectTransparency.types false in
/-- The body at every point keeps to the data. -/
theorem body_obligation0 (c : Dev nD) : BodyObligation (dat0 V c) (defs₀ (F := F)) Variants.none () Set.univ := fun t => by
  rw [bigSep_W0, bigSep_W0]
  rw [show (dat0 V c).Φ t.castSucc = Φ0 V c t.val from rfl, show (dat0 V c).Φ t.succ = Φ0 V c (t.val + 1) from rfl,
    show (dat0 V c).owesAt () t.succ = (dat0 V c).owesAt () t.castSucc from rfl]
  unfold Φ0
  iintro ⟨⟨Hoth, %X, %hX, HX⟩, Howes, ⟨%d0, H0⟩, ⟨%d1, H1⟩, ⟨%d2, H2⟩, ⟨%d3, H3⟩, ⟨%d4, H4⟩, ⟨%d5, H5⟩⟩
  rw [before0_0, before0_1, before0_5]
  have hcnt : cntNext (grid0.coords t) (blk0 V c 0 t) (blk0 V c 1 t) X = cntAt V c (t.val + 1) := by
    rw [cntAt_succ]
    by_cases h : t.val = 0
    · exact cntNext_first _ ((coord0_0 t).trans h) _ _ _ _
    · rw [hX h]
  have hgate : gateOf (grid0.coords t) (blk0 V c 0 t) (blk0 V c 1 t) X
      = gateOf (grid0.coords t) (blk0 V c 0 t) (blk0 V c 1 t) (cntAt V c t.val) := by
    by_cases h : t.val = 0
    · exact gateOf_first _ ((coord0_0 t).trans h) _ _ _ _
    · rw [hX h]
  have hz : zNext (grid0.coords t) (blk0 V c 0 t) (blk0 V c 1 t) (if t.val = 0 then d5 else zAt V c t.val)
      = zAt V c (t.val + 1) := by
    rw [zAt_succ]
    by_cases h : t.val = 0
    · exact zNext_first _ ((coord0_0 t).trans h) _ _ _ _
    · rw [if_neg h]
  iapply (router_body (F := F) (grid0.coords t) c _ _ _ _ _ _ _ _ _ _ _ _ _ _ (blk0 V c 0 t) (blk0 V c 1 t) ((dat0 V c).before 2 t d2)
    ((dat0 V c).before 3 t d3) ((dat0 V c).before 4 t d4) (if t.val = 0 then d5 else zAt V c t.val) X Set.univ _)
  isplitl [H0]; · iexact H0
  isplitl [H1]; · iexact H1
  isplitl [H2]; · iexact H2
  isplitl [H3]; · iexact H3
  isplitl [H4]; · iexact H4
  isplitl [H5]; · iexact H5
  isplitl [HX]; · iexact HX
  iintro ⟨H0, H1, H2, H3, H4, H5, HX⟩
  rw [hcnt, hgate, hz]
  isplitl [Hoth HX]
  · isplitl [Hoth]; · iexact Hoth
    iexists _; isplitr; swap; (· iexact HX)
    ipureintro; exact fun _ => rfl
  isplitl [Howes]; · iexact Howes
  isplitl [H0]; · iexact H0
  isplitl [H1]; · iexact H1
  isplitl [H2]; · iexact H2
  isplitl [H3]; · iexact H3
  isplitl [H4]; · iexact H4
  iexact H5

end Cert.KernelIdeal.Own

end
-- ==== Proof.KI.Run.lean ====
/-
  The whole program's run: the host's stretches and the two regions in order, each leaving every buffer at a stated
  value, and the run theorem over them.
-/
module

public import proofs.«01_k».proof.Proof.KI.RouterRegion
public import proofs.«01_k».proof.Proof.Gen.KernelIdeal.Regions
public import Idealize.ShloMosaic.Lib.Pipeline.Kit

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- … once the host has put the tokens in a row. -/
def W1 (c : Dev nD) : Valuation τ sig (Elt F) := StableHlo.after hostOps0 (W0 m c)
/-- … once the routing kernel has run. -/
def W2 (c : Dev nD) : Valuation τ sig (Elt F) := Pipeline.afterRegion (dat0 (W1 m) c) (W1 m c)
/-- … once the host has gathered the experts' parameters. -/
def W3 (c : Dev nD) : Valuation τ sig (Elt F) := StableHlo.after hostOps1 (W2 m c)
/-- … once the expert kernel has run. -/
def W4 (c : Dev nD) : Valuation τ sig (Elt F) := Pipeline.afterRegion (dat1 (W3 m) c) (W3 m c)
/-- … at the end. -/
def W5 (c : Dev nD) : Valuation τ sig (Elt F) := StableHlo.after hostOps2 (W4 m c)

/-- The two regions' proof data. -/
def pdats : (p : Fin 2) → (c : Dev nD) → Dat τ (Elt F) Unit ℕ (UR sig nD τ) ℕ (cfgs p) c
  | ⟨0, _⟩ => fun c => dat0 (W1 m) c
  | ⟨1, _⟩ => fun c => dat1 (W3 m) c

/-- The levels: one name at every counter of a core, none elsewhere. -/
abbrev lvl (g : GSem nD τ sig) : Finset Unit := if g.1.2 = .tc then {()} else ∅

/-- What rides along with the buffers: what the core owes is nothing. -/
abbrev Own (c : Dev nD) : sProp 𝕄 := iprop(∃ W, owes (c : Thread nD τ) (0 : CellTallies nD τ sig Unit) W)

theorem in0 (c : Dev nD) : iprop(Pipeline.scopedRest (Pipeline.pin (pcfgs (F := F)) adm 0).spec c ∗ emp) ⊢ ((pdats m 0 c).Φ 0 : sProp 𝕄) := by
  rw [show ((pdats m 0 c).Φ 0 : sProp 𝕄) = Φ0 (W1 m) c 0 from rfl]
  rw [show (Pipeline.scopedRest (Pipeline.pin (pcfgs (F := F)) adm 0).spec c : sProp 𝕄) = Pipeline.scopedRest spec0 c from rfl, scopedRest0_eq]
  unfold Φ0 others0
  simp only [owns_whole_eq]
  iintro ⟨⟨⟨%X, HX⟩, Hr⟩, -⟩
  isplitl [Hr]; · iexact Hr
  iexists X; isplitr; · ipureintro; exact fun h => absurd rfl h
  iexists X; isplitr; · ipureintro; rfl
  iexact HX

theorem out0 (c : Dev nD) : ((pdats m 0 c).Φ (Fin.last (Pipeline.pin (pcfgs (F := F)) adm 0).N) : sProp 𝕄)
    ⊢ iprop(Pipeline.scopedRest (Pipeline.pin (pcfgs (F := F)) adm 0).spec c ∗ emp) := by
  rw [show ((pdats m 0 c).Φ (Fin.last (Pipeline.pin (pcfgs (F := F)) adm 0).N) : sProp 𝕄) = Φ0 (W1 m) c cfg0.N from rfl]
  rw [show (Pipeline.scopedRest (Pipeline.pin (pcfgs (F := F)) adm 0).spec c : sProp 𝕄) = Pipeline.scopedRest spec0 c from rfl, scopedRest0_eq]
  unfold Φ0 others0
  simp only [owns_whole_eq]
  iintro ⟨Hr, ⟨%X, -, %f, -, HX⟩⟩
  isplitl [HX Hr]
  · isplitl [HX]; · iexists f; iexact HX
    iexact Hr
  iempintro

theorem in1 (c : Dev nD) : iprop(Pipeline.scopedRest (Pipeline.pin (pcfgs (F := F)) adm 1).spec c ∗ emp) ⊢ ((pdats m 1 c).Φ 0 : sProp 𝕄) := by
  rw [show ((pdats m 1 c).Φ 0 : sProp 𝕄) = Φ1 (W3 m) c 0 from rfl]
  rw [show (Pipeline.scopedRest (Pipeline.pin (pcfgs (F := F)) adm 1).spec c : sProp 𝕄) = Pipeline.scopedRest spec1 c from rfl, scopedRest1_eq]
  unfold Φ1 others1
  simp only [owns_whole_eq]
  iintro ⟨⟨R0, R1, R2, R3, R4, R5, R6, R7, R8, R9, ⟨%X, HX⟩, R11⟩, -⟩
  isplitr [HX]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R11
  iexists X; isplitr; · ipureintro; exact fun h => absurd rfl h
  iexists X; isplitr; · ipureintro; rfl
  iexact HX

theorem out1 (c : Dev nD) : ((pdats m 1 c).Φ (Fin.last (Pipeline.pin (pcfgs (F := F)) adm 1).N) : sProp 𝕄)
    ⊢ iprop(Pipeline.scopedRest (Pipeline.pin (pcfgs (F := F)) adm 1).spec c ∗ emp) := by
  rw [show ((pdats m 1 c).Φ (Fin.last (Pipeline.pin (pcfgs (F := F)) adm 1).N) : sProp 𝕄) = Φ1 (W3 m) c cfg1.N from rfl]
  rw [show (Pipeline.scopedRest (Pipeline.pin (pcfgs (F := F)) adm 1).spec c : sProp 𝕄) = Pipeline.scopedRest spec1 c from rfl, scopedRest1_eq]
  unfold Φ1 others1
  simp only [owns_whole_eq]
  iintro ⟨⟨R0, R1, R2, R3, R4, R5, R6, R7, R8, R9, R11⟩, ⟨%X, -, %f, -, HX⟩⟩
  isplitl
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HX]; · iexists f; iexact HX
    iexact R11
  iempintro

/-- The routing region's record. -/
def reg0 : RegionSeg (pcfgs (F := F)) adm (pdats m) () (defs₀ (F := F)) Variants.none lvl (fun _ _ => (0 : ℕ)) 0 :=
  Pipeline.RegionSeg.ofHeldIn (pcfgs (F := F)) adm (pdats m) () defs₀ Variants.none lvl (fun _ _ => 0) 0 (fun _ => 0) (Pipeline.ucRefs τ sig)
    (fun _ => iprop(emp)) (fun _ => iprop(emp)) launch0.toP rfl (fun c => (body_obligation0 (W1 m) c).loose)
    (fun _ _ => rfl) (fun _ => rfl) (fun c => (dat0 (W1 m) c).share_full fun _ => rfl) (in0 m) (out0 m) (fun _ => 0)
    ⟨fun _ _ _ => Finset.mem_singleton_self _, fun _ _ _ => le_refl _, fun _ _ _ h => absurd h (lt_irrefl _)⟩ (fun _ => iprop(emp)) (W1 m)
    (fun _ _ => rfl)

/-- The expert region's record. -/
def reg1 : RegionSeg (pcfgs (F := F)) adm (pdats m) () (defs₀ (F := F)) Variants.none lvl (fun _ _ => (0 : ℕ)) 1 :=
  Pipeline.RegionSeg.ofHeldIn (pcfgs (F := F)) adm (pdats m) () defs₀ Variants.none lvl (fun _ _ => 0) 1 (fun _ => 0) (Pipeline.ucRefs τ sig)
    (fun _ => iprop(emp)) (fun _ => iprop(emp)) launch1.toP rfl (fun c => (body_obligation1 (W3 m) c).loose)
    (fun _ _ => rfl) (fun _ => rfl) (fun c => (dat1 (W3 m) c).share_full fun _ => rfl) (in1 m) (out1 m) (fun _ => 0)
    ⟨fun _ _ _ => Finset.mem_singleton_self _, fun _ _ _ => le_refl _, fun _ _ _ h => absurd h (lt_irrefl _)⟩ (fun _ => iprop(emp)) (W3 m)
    (fun _ _ => rfl)

/-- A host stretch from the buffers at `W`. -/
def stretch (ops : List (HloOp τ sig (Elt F))) (hs : ops.Forall fun op => op.bufs ⊆ StableHlo.tcRefs τ sig)
    (hf : ops.Forall fun op => op.fresh = ∅) (W : Dev nD → Valuation τ sig (Elt F)) :
    HostSeg (Ix := Unit) (Name := ℕ) (U := UR sig nD τ) (Lvl := ℕ) (pcfgs (F := F)) defs₀ Variants.none lvl (fun _ _ => (0 : ℕ)) :=
  HostSeg.ofOps _ _ _ _ _ (Pipeline.ucRefs τ sig) ops (fun op h => Pipeline.sub_ucRefs op ((List.forall_iff_forall_mem.mp hs) op h))
    (fun op h => (List.forall_iff_forall_mem.mp hf) op h) W Own

/-- The program in order: three host stretches with the two regions between them. -/
abbrev items (_ : Dev nD) : List (Seg (pcfgs (F := F)) adm (pdats m) () defs₀ Variants.none lvl (fun _ _ => (0 : ℕ))) :=
  [.host (stretch hostOps0 hostOps0_sub hostOps0_fresh (W0 m)), .region (reg0 m), .host (stretch hostOps1 hostOps1_sub hostOps1_fresh (W2 m)),
    .region (reg1 m), .host (stretch hostOps2 hostOps2_sub hostOps2_fresh (W4 m))]

/-- The buffers and what the core owes, with nothing beside them. -/
theorem own_emp (c : Dev nD) (W : Valuation τ sig (Elt F)) :
    (iprop(StableHlo.held (c : Thread nD τ) (Pipeline.ucRefs τ sig) W ∗ Own c) : sProp 𝕄)
      ⊢ iprop(StableHlo.held (c : Thread nD τ) (Pipeline.ucRefs τ sig) W ∗ ((∃ Wd, owes (c : Thread nD τ) (0 : CellTallies nD τ sig Unit) Wd) ∗ emp ∗ emp)) := by
  iintro ⟨H, HO⟩
  isplitl [H]; · iexact H
  isplitl [HO]; · iexact HO
  isplitr <;> iempintro

theorem emp_own (c : Dev nD) (W : Valuation τ sig (Elt F)) :
    (iprop(StableHlo.held (c : Thread nD τ) (Pipeline.ucRefs τ sig) W ∗ ((∃ Wd, owes (c : Thread nD τ) (0 : CellTallies nD τ sig Unit) Wd) ∗ emp ∗ emp)) : sProp 𝕄)
      ⊢ iprop(StableHlo.held (c : Thread nD τ) (Pipeline.ucRefs τ sig) W ∗ Own c) := by
  iintro ⟨H, HO, -, -⟩
  isplitl [H]; · iexact H
  iexact HO

/-- A region's arrays are among the buffers that outlive the calls. -/
theorem sub0 : Pipeline.arrRefs (τ := τ) (pcfgs (F := F) 0).spec ⊆ Pipeline.ucRefs τ sig := Pipeline.arrRefs_sub_ucRefs _ launch0.win.arr_unscoped
theorem sub1 : Pipeline.arrRefs (τ := τ) (pcfgs (F := F) 1).spec ⊆ Pipeline.ucRefs τ sig := Pipeline.arrRefs_sub_ucRefs _ launch1.win.arr_unscoped

/-- Region 0 is entered from the buffers at `W1` and left with them at `W2`. -/
theorem pre0 (c : Dev nD) : (iprop(StableHlo.held (c : Thread nD τ) (Pipeline.ucRefs τ sig) (W1 m c) ∗ Own c) : sProp 𝕄) ⊢ (reg0 m).pre c :=
  (own_emp c (W1 m c)).trans (by
    unfold reg0
    exact Pipeline.RegionSeg.ofHeldIn_pre (pcs := pcfgs (F := F)) (a := adm) (pdats := pdats m) (ι := ()) (defs₀ := defs₀) (𝒱₀ := Variants.none) (L := lvl) (lv := fun _ _ => 0) (p := 0) (D := fun _ => 0)
      (X := fun _ => iprop(emp)) (Y := fun _ => iprop(emp)) (R := fun _ => iprop(emp)) (W := W1 m) sub0 c)

theorem post0 (c : Dev nD) : (reg0 m).post c ⊢ (iprop(StableHlo.held (c : Thread nD τ) (Pipeline.ucRefs τ sig) (W2 m c) ∗ Own c) : sProp 𝕄) :=
  BIBase.Entails.trans (by
    unfold reg0
    exact Pipeline.RegionSeg.ofHeldIn_post (pcs := pcfgs (F := F)) (a := adm) (pdats := pdats m) (ι := ()) (defs₀ := defs₀) (𝒱₀ := Variants.none) (L := lvl) (lv := fun _ _ => 0) (p := 0) (D := fun _ => 0)
      (X := fun _ => iprop(emp)) (Y := fun _ => iprop(emp)) (R := fun _ => iprop(emp)) (W := W1 m) sub0 c) (emp_own c (W2 m c))

/-- Region 1 is entered from the buffers at `W3` and left with them at `W4`. -/
theorem pre1 (c : Dev nD) : (iprop(StableHlo.held (c : Thread nD τ) (Pipeline.ucRefs τ sig) (W3 m c) ∗ Own c) : sProp 𝕄) ⊢ (reg1 m).pre c :=
  (own_emp c (W3 m c)).trans (by
    unfold reg1
    exact Pipeline.RegionSeg.ofHeldIn_pre (pcs := pcfgs (F := F)) (a := adm) (pdats := pdats m) (ι := ()) (defs₀ := defs₀) (𝒱₀ := Variants.none) (L := lvl) (lv := fun _ _ => 0) (p := 1) (D := fun _ => 0)
      (X := fun _ => iprop(emp)) (Y := fun _ => iprop(emp)) (R := fun _ => iprop(emp)) (W := W3 m) sub1 c)

theorem post1 (c : Dev nD) : (reg1 m).post c ⊢ (iprop(StableHlo.held (c : Thread nD τ) (Pipeline.ucRefs τ sig) (W4 m c) ∗ Own c) : sProp 𝕄) :=
  BIBase.Entails.trans (by
    unfold reg1
    exact Pipeline.RegionSeg.ofHeldIn_post (pcs := pcfgs (F := F)) (a := adm) (pdats := pdats m) (ι := ()) (defs₀ := defs₀) (𝒱₀ := Variants.none) (L := lvl) (lv := fun _ _ => 0) (p := 1) (D := fun _ => 0)
      (X := fun _ => iprop(emp)) (Y := fun _ => iprop(emp)) (R := fun _ => iprop(emp)) (W := W3 m) sub1 c) (emp_own c (W4 m c))

set_option backward.isDefEq.respectTransparency.types false in
/-- Every weakly fair execution from memory `m` with all counters at zero ends, with every buffer that outlives the
    calls at `W5` and all counters at zero again. -/
theorem run (ρ : Dev nD → PrngReg) : θ_run defs (onTc (τ := τ) (main (F := F))) ⟨m, fun _ => 0, ρ⟩ (fun r =>
    (∀ c : Dev nD, ∀ b ∈ Pipeline.ucRefs τ sig, r.2.mem (c, b) = W5 m c b) ∧ r.2.sem = fun _ => 0) := by
  refine Pipeline.θ_run_regions_kit_dev_sems (pcfgs (F := F)) adm (pdats m) () cellOf_inj emb₁ defs₀ Variants.none lvl (fun _ _ => 0) m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (fun _ => 0)
    (fun g h => if_neg h) (fun _ => iprop(emp)) (initOf (Pipeline.cells cfgs cellOf_inj) (Pipeline.launchToks cfgs cellOf_inj)) ?_
    (T₀ := fun c => iprop(StableHlo.held (c : Thread nD τ) (Pipeline.ucRefs τ sig) (W0 m c) ∗ Own c))
    (Tₙ := fun c => StableHlo.held (c : Thread nD τ) (Pipeline.ucRefs τ sig) (W5 m c))
    (hch := fun c => ⟨.rfl, pre0 m c, post0 m c, pre1 m c, post1 m c, .rfl⟩)
    (hinit := ?_) (QY := fun c s => ∀ b ∈ Pipeline.ucRefs τ sig, s.mem (c, b) = W5 m c b)
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach lvl (fun _ _ => 0) fun c => ?_
    rw [show (unscopedBufs c (fun b => m ((c : Thread nD τ).loc b)) : sProp 𝕄) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    iexists ∅; iexact HO
  · iintro ⟨Hh, HSI⟩
    unfold StableHlo.held
    imodintro
    iapply (pointsTo_read_all (Pipeline.ucRefs τ sig) (fun b => (((c : Thread nD τ)).1, b)) (W5 m c) s')
    isplitl [Hh] <;> iassumption

/-- A buffer that no host stretch writes and that is no region's result ends as launched. -/
theorem W5_of (c : Dev nD) (r : Ref sig .tc) (h0 : r ∉ hostOps0_W) (h1 : r ∉ hostOps1_W) (h2 : r ∉ hostOps2_W)
    (k0 : ∀ w, Pipeline.arrRef spec0 w = r → (cfg0.win w).isOut = false) (k1 : ∀ w, Pipeline.arrRef spec1 w = r → (cfg1.win w).isOut = false) :
    W5 m c (Proc.devRef .tc r) = m ((c : Thread nD τ).loc r) :=
  (StableHlo.after_of_writes_sub hostOps2 _ hostOps2_writes h2).trans <|
  (Pipeline.afterRegion_keeps (dat1 (W3 m) c) (W3 m c) launch1.win.arr_inj (fun _ => rfl) r k1).trans <|
  (StableHlo.after_of_writes_sub hostOps1 _ hostOps1_writes h1).trans <|
  (Pipeline.afterRegion_keeps (dat0 (W1 m) c) (W1 m c) launch0.win.arr_inj (fun _ => rfl) r k0).trans <|
  StableHlo.after_of_writes_sub hostOps0 _ hostOps0_writes h0

/-- A buffer of the TensorCore's that outlives the calls is among those the run speaks of. -/
theorem mem_uc (r : Ref sig .tc) (h : ¬ (Proc.devRef (τ := τ) .tc r).isScoped) : Proc.devRef .tc r ∈ Pipeline.ucRefs τ sig :=
  Finset.mem_filter.mpr ⟨StableHlo.devRef_mem_tcRefs r, h⟩

/-- Every weakly fair execution ends with the fourteen arguments as launched and all counters at zero. -/
theorem frame_run (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => by
    have a (c : Dev nD) (b : Ref sig .tc) (hu : ¬ (Proc.devRef (τ := τ) .tc b).isScoped) (h0 : b ∉ hostOps0_W) (h1 : b ∉ hostOps1_W)
        (h2 : b ∉ hostOps2_W) (k0 : ∀ w, Pipeline.arrRef spec0 w = b → (cfg0.win w).isOut = false)
        (k1 : ∀ w, Pipeline.arrRef spec1 w = b → (cfg1.win w).isOut = false) :
        r.2.mem ((c.tc : Thread nD τ).loc b) = m ((c.tc : Thread nD τ).loc b) :=
      (h.1 c (Proc.devRef .tc b) (mem_uc b hu)).trans (W5_of m c b h0 h1 h2 k0 k1)
    exact ⟨fun c => ⟨a c main_arg0 (by decide) (by decide) (by decide) (by decide) (by decide) (by decide),
      a c main_arg1 (by decide) (by decide) (by decide) (by decide) (by decide) (by decide),
      a c main_arg2 (by decide) (by decide) (by decide) (by decide) (by decide) (by decide),
      a c main_arg3 (by decide) (by decide) (by decide) (by decide) (by decide) (by decide),
      a c main_arg4 (by decide) (by decide) (by decide) (by decide) (by decide) (by decide),
      a c main_arg5 (by decide) (by decide) (by decide) (by decide) (by decide) (by decide),
      a c main_arg6 (by decide) (by decide) (by decide) (by decide) (by decide) (by decide),
      a c main_arg7 (by decide) (by decide) (by decide) (by decide) (by decide) (by decide),
      a c main_arg8 (by decide) (by decide) (by decide) (by decide) (by decide) (by decide),
      a c main_arg9 (by decide) (by decide) (by decide) (by decide) (by decide) (by decide),
      a c main_arg10 (by decide) (by decide) (by decide) (by decide) (by decide) (by decide),
      a c main_arg11 (by decide) (by decide) (by decide) (by decide) (by decide) (by decide),
      a c main_arg12 (by decide) (by decide) (by decide) (by decide) (by decide) (by decide),
      a c main_arg13 (by decide) (by decide) (by decide) (by decide) (by decide) (by decide)⟩, h.2⟩) (run m ρ)

end Cert.KernelIdeal.Own

end
-- ==== Proof.V.Spec.lean ====
/-
  The layer's mathematics on extended reals, one token at a time: the activation, one expert's output, and the softmax
  of a row of router scores.
-/
module

public import Idealize.ShloMosaic.PureOps.Ideal.Laws

@[expose] public section

noncomputable section

namespace Cert.Own

open Idealize.ShloMosaic

/-- The activation `x / 2 * (1 + erf (x / √2))`, with the kernel's constants. -/
def gelu (a : EReal) : EReal :=
  Ideal.ofBits .f32 0x3F000000#32 * a * (1 + Ideal.erf (a * Ideal.ofBits .f32 0x3F3504F3#32))

/-- Hidden unit `h` of an expert at the token `x`. -/
def hiddenUnit {H : ℕ} (x : Fin 1024 → EReal) (w1 : Fin H → Fin 1024 → EReal) (b1 : Fin H → EReal) (h : Fin H) : EReal :=
  gelu ((∑ k, x k * w1 h k) + b1 h)

/-- Output `d` of the expert's low-rank adapter at the token `x`. -/
def adapter (x : Fin 1024 → EReal) (dw : Fin 32 → Fin 1024 → EReal) (uw : Fin 1024 → Fin 32 → EReal) (d : Fin 1024) : EReal :=
  ∑ r, gelu (∑ k, x k * dw r k) * uw d r

/-- Output `d` of an expert at the token `x`: two layers and their biases, plus the adapter. -/
def expert (x : Fin 1024 → EReal) (w1 : Fin 4096 → Fin 1024 → EReal) (b1 : Fin 4096 → EReal) (w2 : Fin 1024 → Fin 4096 → EReal)
    (b2 : Fin 1024 → EReal) (dw : Fin 32 → Fin 1024 → EReal) (uw : Fin 1024 → Fin 32 → EReal) (d : Fin 1024) : EReal :=
  (∑ h, hiddenUnit x w1 b1 h * w2 d h) + b2 d + adapter x dw uw d

end Cert.Own

end
-- ==== Proof.V.Choice.lean ====
/-
  The routing of one token on extended reals: the softmax of its eight scores, the two largest shares and their places.
-/
module

public import Idealize.ShloMosaic.PureOps.Ideal.Laws
public import Idealize.ShloMosaic.Lib.Pointwise

@[expose] public section

noncomputable section

namespace Cert.Own

open Idealize.ShloMosaic

/-- The largest of a row of eight. -/
def rowMax (a : Fin 8 → EReal) : EReal := Finset.univ.fold max (Ideal.ofBits .f32 0xFF800000#32) a

/-- The sum of a row's exponentials, its largest entry taken off first. -/
def expSum (a : Fin 8 → EReal) : EReal := ∑ l, Ideal.exp (a l - rowMax a)

/-- The softmax of a row. -/
def soft (a : Fin 8 → EReal) (l : Fin 8) : EReal := Ideal.div (Ideal.exp (a l - rowMax a)) (expSum a)

/-- `i` is the place of the row's largest entry, the first where several are. -/
def IsFirst (p : Fin 8 → EReal) (i : Fin 8) : Prop := (∀ j, p j ≤ p i) ∧ ∀ j, j < i → p j < p i

theorem exists_first (p : Fin 8 → EReal) : ∃ i, IsFirst p i := by
  classical
  obtain ⟨m, -, hm⟩ := Finset.exists_max_image (Finset.univ : Finset (Fin 8)) p ⟨0, Finset.mem_univ _⟩
  have hne : (Finset.univ.filter fun i : Fin 8 => ∀ j, p j ≤ p i).Nonempty :=
    ⟨m, Finset.mem_filter.mpr ⟨Finset.mem_univ _, fun j => hm j (Finset.mem_univ _)⟩⟩
  have hmem := Finset.min'_mem _ hne
  refine ⟨_, (Finset.mem_filter.mp hmem).2, fun j hj => lt_of_not_ge fun hge => ?_⟩
  refine absurd (Finset.min'_le (Finset.univ.filter fun i : Fin 8 => ∀ j, p j ≤ p i) j
    (Finset.mem_filter.mpr ⟨Finset.mem_univ _, fun k => ((Finset.mem_filter.mp hmem).2 k).trans hge⟩)) (not_le.mpr hj)

/-- The place of a row's largest entry. -/
def first (p : Fin 8 → EReal) : Fin 8 := Classical.choose (exists_first p)

theorem first_spec (p : Fin 8 → EReal) : IsFirst p (first p) := Classical.choose_spec (exists_first p)

/-- A row with one entry put below every share. -/
def without (p : Fin 8 → EReal) (i l : Fin 8) : EReal := if l = i then Ideal.ofBits .f32 0xBF800000#32 else p l

/-- The place of a row's second largest entry. -/
def second (p : Fin 8 → EReal) : Fin 8 := first (without p (first p))

/-- The row's two largest entries. -/
def top1 (p : Fin 8 → EReal) : EReal := p (first p)
def top2 (p : Fin 8 → EReal) : EReal := without p (first p) (second p)

/-- The two largest entries, each over their sum. -/
def prob1 (p : Fin 8 → EReal) : EReal := Ideal.div (top1 p) (top1 p + top2 p)
def prob2 (p : Fin 8 → EReal) : EReal := Ideal.div (top2 p) (top1 p + top2 p)

theorem negInf : Ideal.ofBits .f32 0xFF800000#32 = (⊥ : EReal) := by simp [Ideal.ofBits, Ideal.ieee]

theorem rowMax_eq {p : Fin 8 → EReal} {i : Fin 8} (h : IsFirst p i) : rowMax p = p i := by
  unfold rowMax
  rw [negInf]
  refine le_antisymm ((Finset.fold_max_le _).mpr ⟨bot_le, fun j _ => h.1 j⟩) ((Finset.le_fold_max _).mpr (Or.inr ⟨i, Finset.mem_univ _, le_rfl⟩))

/-- The least lane where a condition holds, by the kernel's minimum over lane numbers. -/
theorem fold_lane (b : Fin 8 → Prop) [DecidablePred b] (i : Fin 8) (hi : b i) (hlt : ∀ j, j < i → ¬ b j) :
    Finset.univ.fold IntOp.minsi (2147483647#32) (fun j : Fin 8 => if b j then BitVec.ofNat 32 j.val else 8#32) = BitVec.ofNat 32 i.val := by
  have key : ∀ (c : Fin 8 → Bool) (i : Fin 8), c i = true → (∀ j, j < i → c j = false) →
      Finset.univ.fold IntOp.minsi (2147483647#32) (fun j : Fin 8 => if c j = true then BitVec.ofNat 32 j.val else 8#32) = BitVec.ofNat 32 i.val := by
    decide +kernel
  simpa using key (fun j => decide (b j)) i (by simpa using hi) (fun j hj => by simpa using hlt j hj)

theorem fold_first {p : Fin 8 → EReal} {i : Fin 8} (h : IsFirst p i) :
    Finset.univ.fold IntOp.minsi (2147483647#32) (fun j : Fin 8 => if p j = p i then BitVec.ofNat 32 j.val else 8#32) = BitVec.ofNat 32 i.val :=
  fold_lane _ i rfl fun j hj => (h.2 j hj).ne

/-! ## The experts' queues -/

/-- Whether token `m` chose lane `l` (no token past the last chooses any). -/
def chose (i : Fin 4096 → Fin 8) (m : ℕ) (l : Fin 8) : ℕ := if h : m < 4096 then (if l = i ⟨m, h⟩ then 1 else 0) else 0

/-- How many of the first `n` tokens chose lane `l`. -/
def seen (i : Fin 4096 → Fin 8) (n : ℕ) (l : Fin 8) : ℕ := ∑ m ∈ Finset.range n, chose i m l

theorem chose_of (i : Fin 4096 → Fin 8) (n : Fin 4096) (l : Fin 8) : chose i n.val l = if l = i n then 1 else 0 := dif_pos n.isLt

/-- The two choices of token `n`, its scores being `a n`. -/
def pick1 (a : Fin 4096 → Fin 8 → EReal) (n : Fin 4096) : Fin 8 := first (soft (a n))
def pick2 (a : Fin 4096 → Fin 8 → EReal) (n : Fin 4096) : Fin 8 := second (soft (a n))

/-- Token `n`'s choice `k`, and its share. -/
def pick (a : Fin 4096 → Fin 8 → EReal) (n : Fin 4096) (k : Fin 2) : Fin 8 := if k = 0 then pick1 a n else pick2 a n
def share2 (a : Fin 4096 → Fin 8 → EReal) (n : Fin 4096) (k : Fin 2) : EReal := if k = 0 then prob1 (soft (a n)) else prob2 (soft (a n))

/-- The choices `i` of token `n` are kept: it is among the first 640 tokens that chose the same. -/
def Kept (i : Fin 4096 → Fin 8) (n : Fin 4096) : Prop := seen i (n.val + 1) (i n) ≤ 640

instance (i : Fin 4096 → Fin 8) (n : Fin 4096) : Decidable (Kept i n) := inferInstanceAs (Decidable (_ ≤ _))

/-- The weight a choice `i` of share `p` gives lane `l`. -/
def gate (i : Fin 4096 → Fin 8) (p : EReal) (n : Fin 4096) (l : Fin 8) : EReal := if l = i n ∧ Kept i n then p else 0

theorem gate_eq (i : Fin 4096 → Fin 8) (p : EReal) (n : Fin 4096) (l : Fin 8) (P : Prop) [Decidable P] (h : P ↔ Kept i n) :
    (if l = i n then 1 else 0) * (p * if P then 1 else 0) = gate i p n l := by
  unfold gate
  by_cases h1 : l = i n <;> by_cases h2 : P
  · rw [if_pos h1, if_pos h2, if_pos ⟨h1, h.mp h2⟩, one_mul, mul_one]
  · rw [if_pos h1, if_neg h2, if_neg (fun hh : l = i n ∧ Kept i n => h2 (h.mpr hh.2)), mul_zero, mul_zero]
  · rw [if_neg h1, if_neg (fun hh : l = i n ∧ Kept i n => h1 hh.1), zero_mul]
  · rw [if_neg h1, if_neg (fun hh : l = i n ∧ Kept i n => h1 hh.1), zero_mul]

/-- A token's log-sum-exp. -/
def lse (a : Fin 8 → EReal) : EReal := rowMax a + Ideal.log (expSum a)

/-- The capacity as a number. -/
theorem capacity_eq : Ideal.ofBits .f32 0x44200000#32 = ((640 : ℕ) : EReal) := by
  rw [← EReal.coe_coe_eq_natCast]
  simp [Ideal.ofBits, Ideal.ieee]
  norm_num
  rw [← EReal.coe_mul]
  norm_num

end Cert.Own

end
-- ==== Proof.V.RefTop.lean ====
/-
  The two largest of eight in a stable sort: where the host's `top_k` finds them.
-/
module

public import proofs.«01_k».proof.Proof.Gen.ReferenceIdeal.Read
public import proofs.«01_k».proof.Proof.V.Choice
public import Idealize.ShloMosaic.Lib.SortPrefix
public import Idealize.ShloMosaic.Lib.Pointwise

@[expose] public section

set_option maxRecDepth 16384

noncomputable section

namespace Cert.Own

open Idealize.ShloMosaic

/-! ## A stable sort breaks ties by position -/

theorem insert_congr {ι : Type} (B B' : ι → ι → Bool) (a : ι) (l : List ι) (h : ∀ b ∈ l, B b a = B' b a) :
    insertBefore B a l = insertBefore B' a l := by
  induction l with
  | nil => rfl
  | cons b l ih =>
    unfold insertBefore
    rw [h b List.mem_cons_self, ih fun c hc => h c (List.mem_cons_of_mem _ hc)]

theorem sort_congr {ι : Type} (B B' : ι → ι → Bool) (l : List ι) (h : l.Pairwise fun a b => B b a = B' b a) :
    stableSort B l = stableSort B' l := by
  induction l with
  | nil => rfl
  | cons a l ih =>
    rw [List.pairwise_cons] at h
    unfold stableSort
    rw [ih h.2]
    exact insert_congr B B' a _ fun b hb => h.1 b ((perm_stableSort B' l).mem_iff.mp hb)

/-- Greater first. -/
def ahead (p : Fin 8 → EReal) (k k' : Fin 8) : Bool := decide (p k' < p k)

/-- Greater first, equals in order of position. -/
def aheadTie (p : Fin 8 → EReal) (k k' : Fin 8) : Bool := decide (p k' < p k) || (decide (p k = p k') && decide (k < k'))

theorem from_tie (p : Fin 8 → EReal) (k : Fin 8) : sortedFrom (ahead p) k = sortedFrom (aheadTie p) k := by
  have e : sortPositions 8 (ahead p) = sortPositions 8 (aheadTie p) := by
    refine sort_congr _ _ _ ((List.pairwise_lt_finRange 8).imp fun {a b} hab => ?_)
    show _ = (_ || (_ && decide (b < a)))
    rw [decide_eq_false (not_lt.mpr hab.le), Bool.and_false, Bool.or_false]
    rfl
  simp only [sortedFrom, List.get_eq_getElem, e]
  rfl

theorem tie_total (p : Fin 8 → EReal) : StrictTotalBefore (aheadTie p) := by
  classical
  refine ⟨fun k => ?_, fun a b c hab hbc => ?_, fun a b hne => ?_⟩
  · simp [aheadTie]
  · simp only [aheadTie, Bool.or_eq_true, Bool.and_eq_true, decide_eq_true_eq] at hab hbc ⊢
    rcases hab with hab | ⟨eab, lab⟩ <;> rcases hbc with hbc | ⟨ebc, lbc⟩
    · exact Or.inl (hbc.trans hab)
    · exact Or.inl (ebc ▸ hab)
    · exact Or.inl (eab ▸ hbc)
    · exact Or.inr ⟨eab.trans ebc, lab.trans lbc⟩
  · simp only [aheadTie, Bool.or_eq_true, Bool.and_eq_true, decide_eq_true_eq]
    rcases lt_trichotomy (p a) (p b) with h | h | h
    · exact Or.inr (Or.inl h)
    · rcases lt_or_gt_of_ne hne with hl | hl
      · exact Or.inl (Or.inr ⟨h, hl⟩)
      · exact Or.inr (Or.inr ⟨h.symm, hl⟩)
    · exact Or.inl (Or.inl h)

/-! ## The two largest, every share being above the mark put on the first -/

/-- Every entry of the row is above the mark. -/
def Above (p : Fin 8 → EReal) : Prop := ∀ j, Ideal.ofBits .f32 0xBF800000#32 < p j

theorem without_ne {p : Fin 8 → EReal} {i l : Fin 8} (h : l ≠ i) : without p i l = p l := if_neg h

theorem second_ne {p : Fin 8 → EReal} (h : Above p) : second p ≠ first p := by
  intro e
  obtain ⟨j, hj⟩ : ∃ j : Fin 8, j ≠ first p := exists_ne _
  have h1 := (first_spec (without p (first p))).1 j
  rw [without_ne hj] at h1
  have h2 : without p (first p) (first (without p (first p))) = Ideal.ofBits .f32 0xBF800000#32 := if_pos e
  rw [h2] at h1
  exact absurd h1 (not_le.mpr (h j))

theorem top2_eq {p : Fin 8 → EReal} (h : Above p) : top2 p = p (second p) := without_ne (second_ne h)

/-- Position `k` of the sorted row. -/
def place (p : Fin 8 → EReal) (k : Fin 2) : Fin 8 := if k = 0 then first p else second p

theorem second_spec {p : Fin 8 → EReal} (h : Above p) (q : Fin 8) (hq : q ≠ first p) :
    p q ≤ p (second p) ∧ (q < second p → p q < p (second p)) := by
  have h2 : without p (first p) (first (without p (first p))) = p (second p) := without_ne (second_ne h)
  refine ⟨?_, fun hl => ?_⟩
  · have := (first_spec (without p (first p))).1 q
    rwa [without_ne hq, h2] at this
  · have := (first_spec (without p (first p))).2 q hl
    rwa [without_ne hq, h2] at this

theorem from_place {p : Fin 8 → EReal} (h : Above p) (k : Fin 2) : sortedFrom (ahead p) (k.castLE (by decide)) = place p k := by
  rw [from_tie]
  have not_ahead : ∀ a b : Fin 8, p a ≤ p b → (a < b → p a < p b) → aheadTie p a b = false := fun a b h1 h2 => by
    simp only [aheadTie, Bool.or_eq_false_iff, Bool.and_eq_false_iff, decide_eq_false_iff_not, not_lt]
    refine ⟨h1, ?_⟩
    by_cases hl : a < b
    · exact Or.inl (h2 hl).ne
    · exact Or.inr (not_lt.mp hl)
  refine (tie_total p).sortedFrom_eq_of_prefix (by decide) (place p) (fun a b hab => ?_) (fun i j hij => ?_) (fun i q hq => ?_) k
  · match a, b with
    | 0, 0 => rfl
    | 1, 1 => rfl
    | 0, 1 => exact absurd hab.symm (second_ne h)
    | 1, 0 => exact absurd hab (second_ne h)
  · obtain ⟨rfl, rfl⟩ : i = 0 ∧ j = 1 := by omega
    exact not_ahead _ _ ((first_spec p).1 _) ((first_spec p).2 _)
  · match i with
    | 0 => exact not_ahead _ _ ((first_spec p).1 _) ((first_spec p).2 _)
    | 1 => exact not_ahead _ _ (second_spec h q (hq 0).symm).1 (second_spec h q (hq 0).symm).2

theorem cmp_ahead (p : Fin 8 → EReal) :
    (fun k k' : Fin 8 => FloatOps.cmpfTotal (F := Ideal) (φ := .f32) .gt (p k) (p k') == 1#1) = ahead p := by
  funext k k'
  show (Ideal.cmp .ogt (p k) (p k') == 1#1) = decide (p k' < p k)
  simp only [Ideal.cmp]
  by_cases hh : p k' < p k <;> simp [hh]

end Cert.Own

namespace Cert.ReferenceIdeal.Own

open Cert.ReferenceIdeal Cert.ReferenceIdeal.Gen Cert.ReferenceIdeal.Read Cert.Own
open Idealize.ShloMosaic Idealize.ShloMosaic.TcCoe

theorem along_lane (hd : 1 < S4096x8.rank) (n : Fin 4096) (l k : Fin 8) : Shape.Idx.along (s := S4096x8) (ix2 n l) ⟨1, hd⟩ k = ix2 n k := by
  funext a
  match a with
  | ⟨0, _⟩ => rfl
  | ⟨1, _⟩ => rfl

theorem topK_apply (x : Vec Ideal S4096x8 .f32) (n : Fin 4096) (k : Fin 2) (h : Above fun l => x (ix2 n l)) :
    (Host.topK S4096x2 1 (FloatOps.cmpfTotal (F := Ideal) (φ := .f32) .gt) x sliceFits_S4096x8_S4096x2).1 (ix2 n k) = x (ix2 n (place (fun l => x (ix2 n l)) k))
    ∧ (Host.topK S4096x2 1 (FloatOps.cmpfTotal (F := Ideal) (φ := .f32) .gt) x sliceFits_S4096x8_S4096x2).2 (ix2 n k)
      = BitVec.ofNat 32 (place (fun l => x (ix2 n l)) k).val := by
  have hs : ∀ {α : Type} (y : S4096x8.Idx → α), extractStridedSlice S4096x2 (fun _ => 0) y sliceFits_S4096x8_S4096x2 (ix2 n k)
      = y (ix2 n (k.castLE (by decide) : Fin 8)) := fun y => by
    unfold extractStridedSlice
    refine congrArg y (funext fun a => Fin.ext ?_)
    match a with
    | ⟨0, _⟩ => exact Nat.zero_add _
    | ⟨1, _⟩ => exact Nat.zero_add _
  have hp := from_place h k
  rw [← cmp_ahead] at hp
  unfold Host.topK
  dsimp only
  rw [hs, hs]
  unfold Host.sort2
  rw [dif_pos (show 1 < S4096x8.rank by decide)]
  dsimp only
  have hd : 1 < S4096x8.rank := by decide
  have hq : sortedFrom (fun a b : Fin 8 => FloatOps.cmpfTotal (F := Ideal) (φ := .f32) .gt
      (x (Shape.Idx.along (s := S4096x8) (ix2 n (k.castLE (by decide) : Fin 8)) ⟨1, hd⟩ a))
      (x (Shape.Idx.along (s := S4096x8) (ix2 n (k.castLE (by decide) : Fin 8)) ⟨1, hd⟩ b)) == 1#1) (k.castLE (by decide))
      = place (fun l => x (ix2 n l)) k := by
    refine (congrArg (fun B : Fin 8 → Fin 8 → Bool => sortedFrom B (k.castLE (by decide))) (funext fun a => funext fun b => ?_)).trans hp
    exact congrArg₂ (fun u v => FloatOps.cmpfTotal (F := Ideal) (φ := .f32) .gt (x u) (x v) == 1#1) (along_lane hd n _ a) (along_lane hd n _ b)
  constructor
  · exact (congrArg x (along_lane hd n _ _)).trans (congrArg (fun q => x (ix2 n q)) hq)
  · rw [dif_pos hd]
    exact congrArg (fun q : Fin 8 => BitVec.ofNat 32 q.val) hq

end Cert.ReferenceIdeal.Own

end
-- ==== Proof.V.Reals.lean ====
/-
  Numbers that are neither infinity. Over real scores the largest is real and every share is above the mark −1.
-/
module

public import proofs.«01_k».proof.Proof.V.RefTop

@[expose] public section

set_option maxRecDepth 16384

noncomputable section

namespace Cert.Own

open Idealize.ShloMosaic

/-- A number that is neither infinity. -/
def Real' (a : EReal) : Prop := ∃ r : ℝ, a = r

theorem Real'.mul {a b : EReal} : Real' a → Real' b → Real' (a * b) := fun ⟨r, hr⟩ ⟨s, hs⟩ => ⟨r * s, by rw [hr, hs, EReal.coe_mul]⟩

theorem coe_sum {ι : Type} (s : Finset ι) (r : ι → ℝ) : ((∑ k ∈ s, r k : ℝ) : EReal) = ∑ k ∈ s, (r k : EReal) := by
  classical
  induction s using Finset.induction_on with
  | empty => simp
  | insert a s ha ih => rw [Finset.sum_insert ha, Finset.sum_insert ha, EReal.coe_add, ih]

theorem Real'.sum {n : ℕ} {f : Fin n → EReal} (h : ∀ k, Real' (f k)) : Real' (∑ k, f k) := by
  choose r hr using h
  refine ⟨∑ k, r k, ?_⟩
  rw [coe_sum]
  exact Finset.sum_congr rfl fun k _ => hr k

theorem mark : Ideal.ofBits .f32 0xBF800000#32 = ((-1 : ℝ) : EReal) := by
  simp [Ideal.ofBits, Ideal.ieee]
  rw [← EReal.coe_mul]
  norm_num

theorem top_bits : Ideal.ofBits .f32 0x7F800000#32 = ⊤ := by
  simp [Ideal.ofBits, Ideal.ieee]

/-- The largest of real scores is real. -/
theorem rowMax_real {a : Fin 8 → EReal} (h : ∀ l, Real' (a l)) : Real' (rowMax a) := by
  obtain ⟨i, hi⟩ := exists_first a
  rw [rowMax_eq hi]
  exact h i

theorem exp_real {a : Fin 8 → EReal} (h : ∀ l, Real' (a l)) (l : Fin 8) : ∃ r : ℝ, 0 < r ∧ Ideal.exp (a l - rowMax a) = (r : EReal) := by
  obtain ⟨r, hr⟩ := h l
  obtain ⟨s, hs⟩ := rowMax_real h
  exact ⟨Real.exp (r - s), Real.exp_pos _, by rw [hr, hs, ← EReal.coe_sub, Ideal.exp_coe]⟩

/-- Over real scores the sum of the exponentials is a positive real. -/
theorem expSum_real {a : Fin 8 → EReal} (h : ∀ l, Real' (a l)) : ∃ s : ℝ, 0 < s ∧ expSum a = (s : EReal) := by
  choose r hpos hr using exp_real h
  refine ⟨∑ l, r l, Finset.sum_pos (fun l _ => hpos l) ⟨0, Finset.mem_univ _⟩, ?_⟩
  unfold expSum
  rw [coe_sum]
  exact Finset.sum_congr rfl fun l _ => hr l

/-- Over real scores, every share is above the mark. -/
theorem above_of_real {a : Fin 8 → EReal} (h : ∀ l, Real' (a l)) : Above (soft a) := by
  obtain ⟨s, hs, es⟩ := expSum_real h
  intro l
  obtain ⟨r, hr, er⟩ := exp_real h l
  unfold soft
  rw [er, es, Ideal.div_coe hs.ne', ← EReal.coe_mul, mark, EReal.coe_lt_coe_iff]
  have := mul_pos hr (one_div_pos.mpr hs)
  linarith

/-- Over real scores the absolute value of the sum of the exponentials is the sum. -/
theorem expSum_abs {a : Fin 8 → EReal} (h : ∀ l, Real' (a l)) : max (expSum a) (-expSum a) = expSum a := by
  obtain ⟨s, hs, es⟩ := expSum_real h
  rw [es, ← EReal.coe_neg]
  exact max_eq_left (EReal.coe_le_coe_iff.mpr (by linarith))

theorem abs_lt_of_real {a : EReal} (h : Real' a) : max a (-a) < ⊤ := by
  obtain ⟨r, rfl⟩ := h
  exact max_lt (EReal.coe_lt_top r) (by rw [← EReal.coe_neg]; exact EReal.coe_lt_top _)

theorem real_of_abs_lt {a : EReal} (h : max a (-a) < ⊤) : Real' a := by
  induction a with
  | bot => exact absurd (lt_of_le_of_lt (le_max_right _ _) h) (by simp)
  | coe r => exact ⟨r, rfl⟩
  | top => exact absurd (lt_of_le_of_lt (le_max_left _ _) h) (by simp)

end Cert.Own

end
-- ==== Proof.V.Queue.lean ====
/-
  A lane's queue: the tokens that chose it, in order, and the token at each of its 640 places.
-/
module

public import proofs.«01_k».proof.Proof.V.Choice
public import Idealize.ShloMosaic.Lib.Routing.Count

@[expose] public section

noncomputable section

namespace Cert.Own

open Idealize.ShloMosaic

theorem chose_le (i : Fin 4096 → Fin 8) (m : ℕ) (l : Fin 8) : chose i m l ≤ 1 := by
  unfold chose
  split_ifs <;> omega

theorem seen_succ (i : Fin 4096 → Fin 8) (n : ℕ) (l : Fin 8) : seen i (n + 1) l = seen i n l + chose i n l := Finset.sum_range_succ _ _

theorem seen_mono (i : Fin 4096 → Fin 8) {m n : ℕ} (h : m ≤ n) (l : Fin 8) : seen i m l ≤ seen i n l :=
  Finset.sum_le_sum_of_subset (Finset.range_mono h)

theorem seen_le (i : Fin 4096 → Fin 8) (n : ℕ) (l : Fin 8) : seen i n l ≤ n := by
  unfold seen
  exact (Finset.sum_le_sum fun m _ => chose_le i m l).trans (by simp)

theorem exists_before : ∃ b : (Fin 4096 → Fin 8) → Fin 8 → ℕ → ℕ, ∀ i l c, b i l c = Nat.count (fun m => seen i (m + 1) l ≤ c) 4096 :=
  ⟨fun i l c => Nat.count (fun m => seen i (m + 1) l ≤ c) 4096, fun _ _ _ => rfl⟩

/-- How many tokens come before the first that fills place `c`. -/
def before : (Fin 4096 → Fin 8) → Fin 8 → ℕ → ℕ := Classical.choose exists_before

theorem before_eq (i : Fin 4096 → Fin 8) (l : Fin 8) (c : ℕ) : before i l c = Nat.count (fun m => seen i (m + 1) l ≤ c) 4096 :=
  Classical.choose_spec exists_before i l c

theorem exists_spot : ∃ s : (Fin 4096 → Fin 8) → Fin 8 → ℕ → ℕ, ∀ i l c, s i l c = if seen i 4096 l ≤ c then 4096 else before i l c :=
  ⟨fun i l c => if seen i 4096 l ≤ c then 4096 else before i l c, fun _ _ _ => rfl⟩

/-- The token at place `c` of lane `l`'s queue, or 4096 when no token is. -/
def spot : (Fin 4096 → Fin 8) → Fin 8 → ℕ → ℕ := Classical.choose exists_spot

theorem spot_eq (i : Fin 4096 → Fin 8) (l : Fin 8) (c : ℕ) : spot i l c = if seen i 4096 l ≤ c then 4096 else before i l c :=
  Classical.choose_spec exists_spot i l c

theorem before_le (i : Fin 4096 → Fin 8) (l : Fin 8) (c : ℕ) : before i l c ≤ 4096 := (before_eq i l c).trans_le (Nat.count_le _)

theorem lt_before (i : Fin 4096 → Fin 8) (l : Fin 8) (c r : ℕ) (hr : r < 4096) : seen i (r + 1) l ≤ c ↔ r < before i l c := by
  rw [before_eq]
  exact Routing.lt_count_iff (Q := fun m => seen i (m + 1) l ≤ c) (fun _ _ hab _ hb => (seen_mono i (Nat.succ_le_succ hab) l).trans hb) hr

theorem before_lt (i : Fin 4096 → Fin 8) (l : Fin 8) (c : ℕ) (h : ¬ seen i 4096 l ≤ c) : before i l c < 4096 := by
  have h1 : ¬ seen i (4095 + 1) l ≤ c := h
  have := lt_before i l c 4095 (by omega)
  have := before_le i l c
  omega

theorem spot_le (i : Fin 4096 → Fin 8) (l : Fin 8) (c : ℕ) : spot i l c ≤ 4096 := by
  rw [spot_eq]
  split_ifs
  · exact le_rfl
  · exact before_le i l c

theorem spot_iff (i : Fin 4096 → Fin 8) (l : Fin 8) (c : ℕ) (n : Fin 4096) :
    spot i l c = n.val ↔ l = i n ∧ seen i (n.val + 1) l = c + 1 := by
  have hn := n.isLt
  have hs := seen_succ i n.val l
  have hc := chose_of i n l
  have ht := seen_mono i (show n.val + 1 ≤ 4096 by omega) l
  have hat := lt_before i l c n.val hn
  have hprev : seen i n.val l ≤ c ↔ n.val ≤ before i l c := by
    rcases Nat.eq_zero_or_pos n.val with h0 | h0
    · rw [h0]
      exact ⟨fun _ => Nat.zero_le _, fun _ => Nat.zero_le _⟩
    · have := lt_before i l c (n.val - 1) (by omega)
      rw [Nat.sub_add_cancel h0] at this
      omega
  rw [spot_eq]
  by_cases hl : l = i n
  · rw [if_pos hl] at hc
    split_ifs <;> constructor <;> intro h <;> first | omega | exact ⟨hl, by omega⟩
  · rw [if_neg hl] at hc
    split_ifs <;> constructor <;> intro h <;> first | omega | exact absurd h.1 hl

/-- The same as a row of a table of 4097; the last row is no token's. -/
def spotAt (i : Fin 4096 → Fin 8) (l : Fin 8) (c : Fin 640) : Fin 4097 := ⟨spot i l c.val, Nat.lt_succ_of_le (spot_le i l c.val)⟩

theorem spotAt_val (i : Fin 4096 → Fin 8) (l : Fin 8) (c : Fin 640) : (spotAt i l c).val = spot i l c.val := by
  unfold spotAt
  rfl

/-- Token `n` fills one place of its lane's queue when it is kept, and none of any other. -/
theorem sum_spot (i : Fin 4096 → Fin 8) (l : Fin 8) (n : Fin 4096) (v : EReal) :
    (∑ c : Fin 640, if (spotAt i l c).val = n.val then v else 0) = if l = i n ∧ Kept i n then v else 0 := by
  simp only [spotAt_val]
  by_cases hk : l = i n ∧ Kept i n
  · have h1 : seen i (n.val + 1) l ≤ 640 := by rw [hk.1]; exact hk.2
    have h2 := seen_succ i n.val l
    rw [chose_of, if_pos hk.1] at h2
    rw [if_pos hk, Finset.sum_eq_single (⟨seen i (n.val + 1) l - 1, by omega⟩ : Fin 640)]
    · rw [if_pos ((spot_iff i l _ n).mpr ⟨hk.1, by show seen i (n.val + 1) l = seen i (n.val + 1) l - 1 + 1; omega⟩)]
    · intro c _ hne
      rw [if_neg]
      intro hc
      have := ((spot_iff i l _ n).mp hc).2
      exact hne (Fin.ext (by show c.val = seen i (n.val + 1) l - 1; omega))
    · intro h
      exact absurd (Finset.mem_univ _) h
  · rw [if_neg hk]
    refine Finset.sum_eq_zero fun c _ => if_neg fun hc => hk ?_
    obtain ⟨h1, h2⟩ := (spot_iff i l _ n).mp hc
    refine ⟨h1, ?_⟩
    subst h1
    have := c.isLt
    show seen i (n.val + 1) (i n) ≤ 640
    omega

end Cert.Own

end
-- ==== Proof.V.RefCount.lean ====
/-
  The host's counts: running sums along the last axis, the histogram of a table of words, and the words they are read with.
-/
module

public import proofs.«01_k».proof.Proof.Gen.ReferenceIdeal.Read
public import proofs.«01_k».proof.Proof.V.Queue
public import Idealize.ShloMosaic.Lib.Routing.Ops
public import Idealize.ShloMosaic.Lib.Routing.OpsPair
public import Idealize.ShloMosaic.Lib.Routing.BitFacts
public import Idealize.ShloMosaic.Lib.WordCmp
public import Idealize.ShloMosaic.Lib.Pointwise

@[expose] public section

set_option maxRecDepth 16384

noncomputable section

namespace Cert.ReferenceIdeal.Own

open Cert.ReferenceIdeal Cert.ReferenceIdeal.Gen Cert.ReferenceIdeal.Read Cert.Own
open Idealize.ShloMosaic Idealize.ShloMosaic.TcCoe

/-! ## Words -/

theorem small (a : ℕ) (ha : a < 2 ^ 31) : (BitVec.ofNat 32 a).toInt = (a : ℤ) := WordCmp.toInt_ofNat_of_lt (w := 32) ha

/-- A folded sum of words that hold naturals holds the naturals' sum. -/
theorem fold_sum {ι : Type} (s : Finset ι) (f : ι → ℕ) : s.fold IntOp.addi 0#32 (fun a => BitVec.ofNat 32 (f a)) = BitVec.ofNat 32 (∑ a ∈ s, f a) := by
  classical
  induction s using Finset.induction_on with
  | empty => rfl
  | insert a s ha ih =>
    rw [Finset.fold_insert ha, ih, Finset.sum_insert ha]
    exact (BitVec.ofNat_add _ _).symm

theorem hit (i l : Fin 8) : IntOp.cmpi .eq (BitVec.ofNat 32 i.val) (BitVec.ofNat 32 l.val) = BitVec.ofBool (decide (l = i)) := by
  revert i l
  decide +kernel

/-- The host's floored quotient by one. -/
theorem over_one (p : Fin 4097) : Scalar.select
      (IntOp.andi
        (IntOp.cmpi .ne (if BitVec.ofNat 32 p.val = 0 then 0 else if BitVec.msb (BitVec.ofNat 32 p.val) = true then -1 else 1 : BitVec 32)
          (if 1#32 = 0 then 0 else if BitVec.msb 1#32 = true then -1 else 1 : BitVec 32))
        (IntOp.cmpi .ne (IntOp.remsi .host (BitVec.ofNat 32 p.val) 1#32) 0#32))
      (IntOp.subi (IntOp.divsi .host (BitVec.ofNat 32 p.val) 1#32) 1#32)
      (IntOp.divsi .host (BitVec.ofNat 32 p.val) 1#32)
    = BitVec.ofNat 32 p.val := by
  revert p
  decide +kernel

/-- The host's floored remainder by the number of tokens. -/
theorem rem_tokens (p : Fin 4097) : Scalar.select
      (IntOp.andi
        (IntOp.cmpi .ne
          (IntOp.cmpi .slt (IntOp.remsi .host (BitVec.ofNat 32 p.val) (Scalar.select (IntOp.cmpi .eq 4096#32 0#32) 1#32 4096#32)) 0#32)
          (IntOp.cmpi .slt (Scalar.select (IntOp.cmpi .eq 4096#32 0#32) 1#32 4096#32) 0#32))
        (IntOp.cmpi .ne (IntOp.remsi .host (BitVec.ofNat 32 p.val) (Scalar.select (IntOp.cmpi .eq 4096#32 0#32) 1#32 4096#32)) 0#32))
      (IntOp.addi (IntOp.remsi .host (BitVec.ofNat 32 p.val) (Scalar.select (IntOp.cmpi .eq 4096#32 0#32) 1#32 4096#32))
        (Scalar.select (IntOp.cmpi .eq 4096#32 0#32) 1#32 4096#32))
      (IntOp.remsi .host (BitVec.ofNat 32 p.val) (Scalar.select (IntOp.cmpi .eq 4096#32 0#32) 1#32 4096#32))
    = BitVec.ofNat 32 (p.val % 4096) := by
  revert p
  decide +kernel

/-- A natural below 2³¹ is no negative word. -/
theorem no_wrap (a : ℕ) (ha : a < 2 ^ 31) (b : BitVec 32) : Scalar.select (IntOp.cmpi .slt (BitVec.ofNat 32 a) 0#32) b (BitVec.ofNat 32 a) = BitVec.ofNat 32 a :=
  Routing.wrap_of_lt _ b (by rw [BitVec.toNat_ofNat]; omega)

/-- The place asked for is past the queue's end. -/
theorem past_end (c s : ℕ) (hc : c < 2 ^ 31) (hs : s < 2 ^ 31) (a b : BitVec 32) :
    Scalar.select (IntOp.cmpi .sge (BitVec.ofNat 32 c) (BitVec.ofNat 32 s)) a b = if s ≤ c then a else b := by
  rw [WordCmp.cmpi_sge_eq, small c hc, small s hs, WordCmp.select_decide]
  exact if_congr Nat.cast_le rfl rfl

/-! ## Running sums along the last of three axes -/

/-- The running sum's window: two axes of extent one, then the axis summed along. -/
abbrev window (N : ℕ) : Shape := ⟨3, ![1, 1, N]⟩

theorem window_numel (N : ℕ) : (window N).numel = N := by
  show ∏ a : Fin 3, (![1, 1, N] : Fin 3 → ℕ) a = N
  rw [Fin.prod_univ_three]
  show 1 * 1 * N = N
  omega

theorem window_at (N : ℕ) (n : Fin (window N).numel) :
    ((window N).rowMajor.symm n 0).val = 0 ∧ ((window N).rowMajor.symm n 1).val = 0 ∧ ((window N).rowMajor.symm n 2).val = n.val := by
  have h0 : ((window N).rowMajor.symm n 0).val < 1 := ((window N).rowMajor.symm n 0).isLt
  have h1 : ((window N).rowMajor.symm n 1).val < 1 := ((window N).rowMajor.symm n 1).isLt
  have h2 : ((window N).rowMajor ((window N).rowMajor.symm n)).val = n.val := congrArg Fin.val ((window N).rowMajor.apply_symm_apply n)
  rw [Shape.rowMajor_val_three] at h2
  change (((window N).rowMajor.symm n 0).val * 1 + ((window N).rowMajor.symm n 1).val) * N + ((window N).rowMajor.symm n 2).val = n.val at h2
  have e0 : ((window N).rowMajor.symm n 0).val = 0 := by omega
  have e1 : ((window N).rowMajor.symm n 1).val = 0 := by omega
  rw [e0, e1] at h2
  simp only [Nat.zero_mul, Nat.zero_add] at h2
  exact ⟨e0, e1, h2⟩

/-- The running sum of words that hold naturals holds the naturals' running sum. -/
theorem running {N P : ℕ} (hN : P + 1 = N) (x : IVec ⟨3, ![2, 8, N]⟩ 32) (f : ℕ → ℕ) (k : Fin 2) (l : Fin 8)
    (hx : ∀ n : Fin N, x (ix3 k l n) = BitVec.ofNat 32 (f n.val)) (init : IVec S_ 32) (hinit : ∀ i, init i = 0#32)
    (h : (⟨3, ![2, 8, N]⟩ : Shape).ReduceWindows (![1, 1, N] : Fin 3 → ℕ) ![1, 1, 1] ![0, 0, P] ![0, 0, 0] ⟨3, ![2, 8, N]⟩) (n : Fin N) :
    Host.reduceWindow IntOp.addi ![1, 1, N] ![1, 1, 1] ![0, 0, P] ![0, 0, 0] x init h h_S_ (ix3 k l n)
      = BitVec.ofNat 32 ((List.range (n.val + 1)).map f).sum := by
  subst hN
  have hn := n.isLt
  have hk := k.isLt
  have hl := l.isLt
  unfold Host.reduceWindow
  refine (Routing.foldl_addi_ofNat _ _ (fun w => if P ≤ n.val + w.val then f (n.val + w.val - P) else 0) (fun w _ => ?_) _ 0
    (hinit _)).trans ?_
  · obtain ⟨w0, w1, w2⟩ := window_at (P + 1) w
    have hw : w.val < P + 1 := w.isLt.trans_eq (window_numel _)
    dsimp only
    split
    · next hin =>
      have h0 := hin 2
      change P ≤ n.val * 1 + ((window (P + 1)).rowMajor.symm w 2).val ∧ n.val * 1 + ((window (P + 1)).rowMajor.symm w 2).val - P < P + 1 at h0
      rw [w2] at h0
      rw [if_pos (by omega)]
      refine (congrArg x (funext fun a => Fin.ext ?_)).trans (hx ⟨n.val + w.val - P, by omega⟩)
      match a with
      | ⟨0, _⟩ => show k.val * 1 + ((window (P + 1)).rowMajor.symm w 0).val - 0 = k.val; omega
      | ⟨1, _⟩ => show l.val * 1 + ((window (P + 1)).rowMajor.symm w 1).val - 0 = l.val; omega
      | ⟨2, _⟩ => show n.val * 1 + ((window (P + 1)).rowMajor.symm w 2).val - P = n.val + w.val - P; omega
    · next hin =>
      rw [if_neg fun hle => hin fun a => by
        match a with
        | ⟨0, _⟩ =>
          show 0 ≤ k.val * 1 + ((window (P + 1)).rowMajor.symm w 0).val ∧ k.val * 1 + ((window (P + 1)).rowMajor.symm w 0).val - 0 < 2
          omega
        | ⟨1, _⟩ =>
          show 0 ≤ l.val * 1 + ((window (P + 1)).rowMajor.symm w 1).val ∧ l.val * 1 + ((window (P + 1)).rowMajor.symm w 1).val - 0 < 8
          omega
        | ⟨2, _⟩ =>
          show P ≤ n.val * 1 + ((window (P + 1)).rowMajor.symm w 2).val ∧ n.val * 1 + ((window (P + 1)).rowMajor.symm w 2).val - P < P + 1
          omega]
      exact hinit _
  · rw [Nat.zero_add, Routing.map_finRange_val _ (fun w => if P ≤ n.val + w then f (n.val + w - P) else 0)]
    exact congrArg (BitVec.ofNat 32) ((congrArg (fun M => ((List.range M).map fun w => if P ≤ n.val + w then f (n.val + w - P) else 0).sum)
      (window_numel (P + 1))).trans (Routing.sum_window f P n.val (by omega)))

/-! ## The histogram -/

/-- A scatter that adds words, read at one element: the words that land there, summed. -/
theorem scatter_sum {s si u : Shape} (d : ScatterDims s si u) (x : IVec s 32) (idx : IVec si 32) (upd : IVec u 32) (ι : s.Idx) (hx : x ι = 0#32)
    (hit : u.Idx → Prop) [DecidablePred hit] (hhit : ∀ j, d.resultIdx? j idx = some ι ↔ hit j) (hupd : ∀ j, upd j = 1#32) :
    Host.scatter d IntOp.addi x idx upd ι = BitVec.ofNat 32 (∑ j : u.Idx, if hit j then 1 else 0) := by
  rw [Routing.scatter_at]
  have e : (fun (a : BitVec 32) (n : Fin u.numel) => if d.resultIdx? (u.rowMajor.symm n) idx = some ι then IntOp.addi a (upd (u.rowMajor.symm n)) else a)
      = fun a n => IntOp.addi a (BitVec.ofNat 32 (if hit (u.rowMajor.symm n) then 1 else 0)) := by
    funext a n
    by_cases hh : hit (u.rowMajor.symm n)
    · rw [if_pos ((hhit _).mpr hh), if_pos hh, hupd]
    · rw [if_neg (fun hc => hh ((hhit _).mp hc)), if_neg hh]
      exact (BitVec.add_zero a).symm
  rw [e, Routing.foldl_addi_ofNat _ _ (fun n => if hit (u.rowMajor.symm n) then 1 else 0) (fun n _ => rfl) _ 0 hx, Nat.zero_add,
    ← Fin.sum_univ_def, ← Equiv.sum_comp u.rowMajor.symm fun j => if hit j then 1 else 0]

/-- Where an update of the histogram lands. -/
theorem hist_lands (idx : IVec S2x8x4096x3 32) (k' : Fin 2) (l' : Fin 8) (m : Fin 4096) (k : Fin 2) (l : Fin 8) (c : Fin 640) :
    scatter_S2x8x640_S2x8x4096x3_S2x8x4096_n_012_012_3.resultIdx? (ix3 k' l' m) idx = some (ix3 k l c)
      ↔ (idx (ix4 k' l' m 0)).toInt = k.val ∧ (idx (ix4 k' l' m 1)).toInt = l.val ∧ (idx (ix4 k' l' m 2)).toInt = c.val := by
  rw [Routing.resultIdx?_eq_some]
  have hs : ∀ a : Fin 3, scatter_S2x8x640_S2x8x4096x3_S2x8x4096_n_012_012_3.start (ix3 k' l' m) idx a = (idx (ix4 k' l' m a)).toInt := fun a => by
    have ha : ∀ a : Fin 3, a ∈ scatter_S2x8x640_S2x8x4096x3_S2x8x4096_n_012_012_3.scatterDimsToOperandDims := by decide
    unfold ScatterDims.start
    rw [dif_pos (ha a)]
    refine congrArg (fun q => (idx q).toInt) (funext fun b => ?_)
    match a, b with
    | 0, ⟨0, _⟩ => rfl
    | 0, ⟨1, _⟩ => rfl
    | 0, ⟨2, _⟩ => rfl
    | 0, ⟨3, _⟩ => rfl
    | 1, ⟨0, _⟩ => rfl
    | 1, ⟨1, _⟩ => rfl
    | 1, ⟨2, _⟩ => rfl
    | 1, ⟨3, _⟩ => rfl
    | 2, ⟨0, _⟩ => rfl
    | 2, ⟨1, _⟩ => rfl
    | 2, ⟨2, _⟩ => rfl
    | 2, ⟨3, _⟩ => rfl
  have hw : ∀ a : Fin 3, scatter_S2x8x640_S2x8x4096x3_S2x8x4096_n_012_012_3.window (ix3 k' l' m) a = 0 := fun a => by
    match a with
    | 0 => rfl
    | 1 => rfl
    | 2 => rfl
  constructor
  · intro h
    have h0 := h 0
    have h1 := h 1
    have h2 := h 2
    rw [hs, hw] at h0 h1 h2
    exact ⟨by simpa using h0, by simpa using h1, by simpa using h2⟩
  · rintro ⟨h0, h1, h2⟩ a
    match a with
    | 0 => exact (congrArg₂ (fun p q : ℤ => p + q) (hs 0) (congrArg Nat.cast (hw 0))).trans (by rw [h0]; simp)
    | 1 => exact (congrArg₂ (fun p q : ℤ => p + q) (hs 1) (congrArg Nat.cast (hw 1))).trans (by rw [h1]; simp)
    | 2 => exact (congrArg₂ (fun p q : ℤ => p + q) (hs 2) (congrArg Nat.cast (hw 2))).trans (by rw [h2]; simp)

/-- The histogram of a table of naturals below 2³¹, line by line. -/
theorem hist (x : IVec S2x8x640 32) (hx : ∀ i, x i = 0#32) (idx : IVec S2x8x4096x3 32) (upd : IVec S2x8x4096 32) (hupd : ∀ i, upd i = 1#32)
    (g : Fin 2 → Fin 8 → ℕ → ℕ) (h0 : ∀ k l m, idx (ix4 k l m 0) = BitVec.ofNat 32 k.val) (h1 : ∀ k l m, idx (ix4 k l m 1) = BitVec.ofNat 32 l.val)
    (h2 : ∀ k l (m : Fin 4096), idx (ix4 k l m 2) = BitVec.ofNat 32 (g k l m.val)) (hg : ∀ k l (m : Fin 4096), g k l m.val < 2 ^ 31)
    (k : Fin 2) (l : Fin 8) (c : Fin 640) :
    Host.scatter scatter_S2x8x640_S2x8x4096x3_S2x8x4096_n_012_012_3 IntOp.addi x idx upd (ix3 k l c)
      = BitVec.ofNat 32 (Nat.count (fun m => g k l m = c.val) 4096) := by
  rw [scatter_sum _ x idx upd _ (hx _) (fun j => (j 0).val = k.val ∧ (j 1).val = l.val ∧ g k l (j 2).val = c.val) (fun j => ?_) hupd]
  · rw [sum_idx3]
    refine congrArg (BitVec.ofNat 32) ?_
    rw [Finset.sum_eq_single k (fun k' _ hne => Finset.sum_eq_zero fun l' _ => Finset.sum_eq_zero fun m _ => if_neg fun hh => hne (Fin.ext hh.1))
      (fun hh => absurd (Finset.mem_univ _) hh),
      Finset.sum_eq_single l (fun l' _ hne => Finset.sum_eq_zero fun m _ => if_neg fun hh => hne (Fin.ext hh.2.1))
      (fun hh => absurd (Finset.mem_univ _) hh), ← Routing.card_filter_fin, Finset.card_filter]
    refine Finset.sum_congr rfl fun m _ => if_congr ?_ rfl rfl
    exact ⟨fun hh => hh.2.2, fun hh => ⟨rfl, rfl, hh⟩⟩
  · obtain ⟨k', l', m, rfl⟩ : ∃ k' l' m, j = ix3 k' l' m := ⟨j 0, j 1, j 2, by
      funext a
      match a with
      | ⟨0, _⟩ => rfl
      | ⟨1, _⟩ => rfl
      | ⟨2, _⟩ => rfl⟩
    rw [hist_lands, h0, h1, h2, small _ (by omega), small _ (by omega), small _ (hg _ _ _)]
    show _ ↔ k'.val = k.val ∧ l'.val = l.val ∧ g k l m.val = c.val
    constructor
    · rintro ⟨e0, e1, e2⟩
      obtain rfl : k' = k := Fin.ext (by exact_mod_cast e0)
      obtain rfl : l' = l := Fin.ext (by exact_mod_cast e1)
      exact ⟨rfl, rfl, by exact_mod_cast e2⟩
    · rintro ⟨e0, e1, e2⟩
      obtain rfl : k' = k := Fin.ext e0
      obtain rfl : l' = l := Fin.ext e1
      exact ⟨rfl, rfl, by exact_mod_cast e2⟩

end Cert.ReferenceIdeal.Own

end
-- ==== Proof.V.RefDispatch.lean ====
/-
  The host's gathers of rows and of weights by a table of tokens, and its scatter that adds rows back, over the extended reals.
-/
module

public import proofs.«01_k».proof.Proof.V.RefCount

@[expose] public section

set_option maxRecDepth 16384

noncomputable section

namespace Cert.ReferenceIdeal.Own

open Cert.ReferenceIdeal Cert.ReferenceIdeal.Gen Cert.ReferenceIdeal.Read Cert.Own
open Idealize.ShloMosaic Idealize.ShloMosaic.TcCoe

/-- Row `p` of the table, wherever the table of tokens says `p`. -/
theorem rows_at {α : Type} (x : S4097x1024.Idx → α) (idx : IVec S8x640x1 32) (l : Fin 8) (c : Fin 640) (k : Fin 1024) (p : Fin 4097)
    (hp : idx (ix3 l c 0) = BitVec.ofNat 32 p.val) :
    Host.gather gather_S4097x1024_S8x640x1_S8x640x1024_2_0_n_n_0_2_11024 x idx (ix3 l c k) = x (ix2 p k) := by
  have hm : (0 : Fin 2) ∈ gather_S4097x1024_S8x640x1_S8x640x1024_2_0_n_n_0_2_11024.startIndexMap := by decide
  have hn : (1 : Fin 2) ∉ gather_S4097x1024_S8x640x1_S8x640x1024_2_0_n_n_0_2_11024.startIndexMap := by decide
  have hpl := p.isLt
  unfold Host.gather
  refine congrArg x (funext fun a => Fin.ext ?_)
  match a with
  | ⟨0, _⟩ =>
    show gather_S4097x1024_S8x640x1_S8x640x1024_2_0_n_n_0_2_11024.start (ix3 l c k) idx 0 + 0 + 0 = p.val
    unfold GatherDims.start
    rw [dif_pos hm]
    have hs : gather_S4097x1024_S8x640x1_S8x640x1024_2_0_n_n_0_2_11024.siIdx (ix3 l c k) ⟨List.idxOf 0 gather_S4097x1024_S8x640x1_S8x640x1024_2_0_n_n_0_2_11024.startIndexMap,
        List.idxOf_lt_length_iff.2 hm⟩ = ix3 l c 0 := funext fun b => by
      match b with
      | ⟨0, _⟩ => rfl
      | ⟨1, _⟩ => rfl
      | ⟨2, _⟩ => rfl
    rw [hs, hp, small _ (by omega)]
    show min p.val 4096 + 0 + 0 = p.val
    omega
  | ⟨1, _⟩ =>
    show gather_S4097x1024_S8x640x1_S8x640x1024_2_0_n_n_0_2_11024.start (ix3 l c k) idx 1 + 0 + k.val = k.val
    unfold GatherDims.start
    rw [dif_neg hn]
    omega

/-- Weight `p` of the table, wherever the table of tokens says `p`. -/
theorem weights_at {α : Type} (x : S4097.Idx → α) (idx : IVec S8x640x1 32) (l : Fin 8) (c : Fin 640) (p : Fin 4097)
    (hp : idx (ix3 l c 0) = BitVec.ofNat 32 p.val) :
    Host.gather gather_S4097_S8x640x1_S8x640_n_0_n_n_0_2_1 x idx (ix2 l c) = x (ix1 p) := by
  have hm : (0 : Fin 1) ∈ gather_S4097_S8x640x1_S8x640_n_0_n_n_0_2_1.startIndexMap := by decide
  have hpl := p.isLt
  unfold Host.gather
  refine congrArg x (funext fun a => Fin.ext ?_)
  match a with
  | ⟨0, _⟩ =>
    show gather_S4097_S8x640x1_S8x640_n_0_n_n_0_2_1.start (ix2 l c) idx 0 + 0 + 0 = p.val
    unfold GatherDims.start
    rw [dif_pos hm]
    have hs : gather_S4097_S8x640x1_S8x640_n_0_n_n_0_2_1.siIdx (ix2 l c) ⟨List.idxOf 0 gather_S4097_S8x640x1_S8x640_n_0_n_n_0_2_1.startIndexMap,
        List.idxOf_lt_length_iff.2 hm⟩ = ix3 l c 0 := funext fun b => by
      match b with
      | ⟨0, _⟩ => rfl
      | ⟨1, _⟩ => rfl
      | ⟨2, _⟩ => rfl
    rw [hs, hp, small _ (by omega)]
    show min p.val 4096 + 0 + 0 = p.val
    omega

/-- Where a row's element is added back. -/
theorem back_lands (idx : IVec S8x640x1 32) (l : Fin 8) (c : Fin 640) (d' : Fin 1024) (n : Fin 4097) (d : Fin 1024) :
    scatter_S4097x1024_S8x640x1_S8x640x1024_2_0_0_2.resultIdx? (ix3 l c d') idx = some (ix2 n d)
      ↔ (idx (ix3 l c 0)).toInt = n.val ∧ d' = d := by
  have hm : (0 : Fin 2) ∈ scatter_S4097x1024_S8x640x1_S8x640x1024_2_0_0_2.scatterDimsToOperandDims := by decide
  have hn : (1 : Fin 2) ∉ scatter_S4097x1024_S8x640x1_S8x640x1024_2_0_0_2.scatterDimsToOperandDims := by decide
  have h0 : scatter_S4097x1024_S8x640x1_S8x640x1024_2_0_0_2.start (ix3 l c d') idx 0 = (idx (ix3 l c 0)).toInt := by
    unfold ScatterDims.start
    rw [dif_pos hm]
    refine congrArg (fun q => (idx q).toInt) (funext fun b => ?_)
    match b with
    | ⟨0, _⟩ => rfl
    | ⟨1, _⟩ => rfl
    | ⟨2, _⟩ => rfl
  have h1 : scatter_S4097x1024_S8x640x1_S8x640x1024_2_0_0_2.start (ix3 l c d') idx 1 = 0 := by
    unfold ScatterDims.start
    rw [dif_neg hn]
  have w0 : scatter_S4097x1024_S8x640x1_S8x640x1024_2_0_0_2.window (ix3 l c d') 0 = 0 := rfl
  have w1 : scatter_S4097x1024_S8x640x1_S8x640x1024_2_0_0_2.window (ix3 l c d') 1 = d'.val := rfl
  rw [Routing.resultIdx?_eq_some]
  constructor
  · intro h
    have e0 := h 0
    have e1 := h 1
    rw [h0, w0] at e0
    rw [h1, w1] at e1
    refine ⟨by simpa using e0, Fin.ext ?_⟩
    have : (0 : ℤ) + (d'.val : ℤ) = (d.val : ℤ) := e1
    omega
  · rintro ⟨e0, rfl⟩ a
    match a with
    | 0 => exact (congrArg₂ (fun p q : ℤ => p + q) h0 (congrArg Nat.cast w0)).trans (by rw [e0]; simp)
    | 1 => exact (congrArg₂ (fun p q : ℤ => p + q) h1 (congrArg Nat.cast w1)).trans (by simp)

/-- Rows added back at the tokens of a table: each token's rows, summed. -/
theorem back_at (x : Vec Ideal S4097x1024 .f32) (idx : IVec S8x640x1 32) (upd : Vec Ideal S8x640x1024 .f32) (p : Fin 8 → Fin 640 → Fin 4097)
    (hp : ∀ l c, idx (ix3 l c 0) = BitVec.ofNat 32 (p l c).val) (n : Fin 4097) (d : Fin 1024) :
    Host.scatterAdd (F := Ideal) (φ := .f32) scatter_S4097x1024_S8x640x1_S8x640x1024_2_0_0_2 x idx upd (ix2 n d)
      = (x (ix2 n d) : EReal) + ∑ l : Fin 8, ∑ c : Fin 640, if (p l c).val = n.val then (upd (ix3 l c d) : EReal) else 0 := by
  show (x (ix2 n d) : EReal) + (∑ j ∈ Finset.univ.filter (fun j => scatter_S4097x1024_S8x640x1_S8x640x1024_2_0_0_2.resultIdx? j idx = some (ix2 n d)), (upd j : EReal)) = _
  rw [Finset.sum_filter, sum_idx3]
  refine congrArg _ (Finset.sum_congr rfl fun l _ => Finset.sum_congr rfl fun c _ => ?_)
  have hl : ∀ d', scatter_S4097x1024_S8x640x1_S8x640x1024_2_0_0_2.resultIdx? (ix3 l c d') idx = some (ix2 n d) ↔ (p l c).val = n.val ∧ d' = d := fun d' => by
    have := (p l c).isLt
    rw [back_lands, hp, small _ (by omega), Nat.cast_inj]
  rw [Finset.sum_eq_single d (fun d' _ hne => if_neg fun hh => hne ((hl d').mp hh).2) (fun hh => absurd (Finset.mem_univ _) hh)]
  exact if_congr ((hl d).trans ⟨fun hh => hh.1, fun hh => ⟨hh, rfl⟩⟩) rfl rfl

end Cert.ReferenceIdeal.Own

end
-- ==== Proof.V.RefValue.lean ====
/-
  The reference's values read at an index over the extended reals: the scores, the softmax, the two choices and their
  shares, the mean of squares, the queues, the experts at the queues' places, and the rows added back.
-/
module

public import proofs.«01_k».proof.Proof.V.Spec
public import proofs.«01_k».proof.Proof.V.RefTop
public import proofs.«01_k».proof.Proof.V.Reals
public import proofs.«01_k».proof.Proof.V.RefDispatch

@[expose] public section

set_option maxRecDepth 16384

noncomputable section

namespace Cert.ReferenceIdeal.Own

open Cert.ReferenceIdeal Cert.ReferenceIdeal.Gen Cert.ReferenceIdeal.Read Cert.Own
open Idealize.ShloMosaic Idealize.ShloMosaic.TcCoe

theorem gelu_erfc (a : EReal) :
    Ideal.ofBits .f32 0x3F000000#32 * a * Ideal.erfc (-a * Ideal.ofBits .f32 0x3F3504F3#32) = gelu a := by
  rw [neg_mul, Ideal.erfc_neg]
  rfl

variable (x0 : Vec Ideal S2x2048x1024 .f32) (x1 : Vec Ideal S1024x8 .f32) (x2 : Vec Ideal S8x4096x1024 .f32) (x3 : Vec Ideal S8x4096 .f32)
  (x4 : Vec Ideal S8x1024x4096 .f32) (x5 : Vec Ideal S8x1024 .f32) (x6 : Vec Ideal S8x32x1024 .f32) (x7 : Vec Ideal S8x1024x32 .f32)
  (x8 : Vec Ideal S4096x1024 .f32) (x9 : Vec Ideal S4096 .f32) (x10 : Vec Ideal S1024x4096 .f32) (x11 : Vec Ideal S1024 .f32)
  (x12 : Vec Ideal S32x1024 .f32) (x13 : Vec Ideal S1024x32 .f32)

/-- The tokens, and their router scores. -/
abbrev tok (n : Fin 4096) (k : Fin 1024) : EReal := val_main_v0 (F := Ideal) x0 (ix2 n k)
def score (n : Fin 4096) (l : Fin 8) : EReal := ∑ k : Fin 1024, tok x0 n k * (x1 (ix2 k l) : Ideal .f32)

theorem v1_apply (n : Fin 4096) (l : Fin 8) : val_main_v1 (F := Ideal) x0 x1 (ix2 n l) = score x0 x1 n l := by
  pointwise [val_main_v1]
  rfl

theorem v12_apply (n : Fin 4096) (l : Fin 8) : val_main_v12 (F := Ideal) x0 x1 (ix2 n l) = soft (score x0 x1 n) l := by
  pointwise [val_main_v2, val_main_v3, val_main_v4, val_main_v5, val_main_v6, val_main_v7, val_main_v8, val_main_v9, val_main_v10, val_main_v11, val_main_v12, val_main_cst, val_main_cst_0, val_main_cst_1]
  simp only [v1_apply, negInf, max_eq_right bot_le]
  unfold soft expSum rowMax
  rw [negInf]

/-- Every share is above the mark. -/
abbrev Good : Prop := ∀ n, Above (soft (score x0 x1 n))

theorem row12 (n : Fin 4096) : (fun l => (val_main_v12 (F := Ideal) x0 x1 (ix2 n l) : EReal)) = soft (score x0 x1 n) :=
  funext fun l => v12_apply x0 x1 n l

theorem values_apply (h : Good x0 x1) (n : Fin 4096) (k : Fin 2) :
    val_main_values (F := Ideal) x0 x1 (ix2 n k) = soft (score x0 x1 n) (place (soft (score x0 x1 n)) k) := by
  have h' : Above fun l => (val_main_v12 (F := Ideal) x0 x1 (ix2 n l) : EReal) := by rw [row12]; exact h n
  have := (topK_apply (val_main_v12 (F := Ideal) x0 x1) n k h').1
  rw [v12_apply, row12] at this
  exact this

theorem indices_apply (h : Good x0 x1) (n : Fin 4096) (k : Fin 2) :
    val_main_indices (F := Ideal) x0 x1 (ix2 n k) = BitVec.ofNat 32 (pick (score x0 x1) n k).val := by
  have h' : Above fun l => (val_main_v12 (F := Ideal) x0 x1 (ix2 n l) : EReal) := by rw [row12]; exact h n
  have := (topK_apply (val_main_v12 (F := Ideal) x0 x1) n k h').2
  rw [row12] at this
  exact this

theorem v16_apply (h : Good x0 x1) (n : Fin 4096) (k : Fin 2) :
    val_main_v16 (F := Ideal) x0 x1 (ix2 n k) = share2 (score x0 x1) n k := by
  pointwise [val_main_v13, val_main_v14, val_main_v15, val_main_v16, val_main_cst_2]
  simp only [values_apply x0 x1 h, Fin.sum_univ_two]
  have e := top2_eq (h n)
  unfold share2 prob1 prob2
  rw [e]
  match k with
  | 0 => rfl
  | 1 => rfl

theorem v24_apply (h : ∀ n l, Real' (score x0 x1 n l)) (n : Fin 4096) : val_main_v24 (F := Ideal) x0 x1 (ix1 n) = rowMax (score x0 x1 n) := by
  pointwise [val_main_v17, val_main_v18, val_main_v19, val_main_v20, val_main_v21, val_main_v22, val_main_v23, val_main_v24, val_main_cst_3, val_main_cst_4, val_main_cst_5, val_main_cst_6]
  simp only [v1_apply, negInf, max_eq_right bot_le]
  have e : Finset.univ.fold max ⊥ (fun l => score x0 x1 n l) = rowMax (score x0 x1 n) := by
    unfold rowMax
    rw [negInf]
  rw [e]
  refine if_pos ?_
  rw [top_bits]
  exact abs_lt_of_real (rowMax_real (h n))

theorem v33_apply (h : ∀ n l, Real' (score x0 x1 n l)) (n : Fin 4096) :
    val_main_v33 (F := Ideal) x0 x1 (ix1 n) = lse (score x0 x1 n) * lse (score x0 x1 n) := by
  pointwise [val_main_v25, val_main_v26, val_main_v27, val_main_v28, val_main_v29, val_main_v30, val_main_v31, val_main_v32, val_main_v33, val_main_cst_7]
  simp only [v1_apply, v24_apply x0 x1 h]
  have e : FloatOps.absf (F := Ideal) (φ := .f32) (∑ l, Ideal.exp (score x0 x1 n l - rowMax (score x0 x1 n))) = expSum (score x0 x1 n) :=
    expSum_abs (h n)
  rw [e]
  unfold lse
  rw [add_comm (rowMax _)]

theorem v35_apply (h : ∀ n l, Real' (score x0 x1 n l)) : val_main_v35 (F := Ideal) x0 x1 ix0
    = Ideal.div (∑ n : Fin 4096, lse (score x0 x1 n) * lse (score x0 x1 n)) (Ideal.ofBits .f32 0x45800000#32) := by
  pointwise [val_main_v34, val_main_v35, val_main_cst_8, val_main_cst_9]
  simp only [v33_apply x0 x1 h]

/-! ## The queues -/

/-- Choice `k` of every token. -/
abbrev picks (k : Fin 2) : Fin 4096 → Fin 8 := fun n => pick (score x0 x1) n k

theorem v45_apply (h : Good x0 x1) (k : Fin 2) (l : Fin 8) (n : Fin 4096) :
    val_main_v45 (F := Ideal) x0 x1 (ix3 k l n) = BitVec.ofBool (decide (l = picks x0 x1 k n)) := by
  pointwise [val_main_v38, val_main_v39, val_main_v40, val_main_v41, val_main_v42, val_main_v43, val_main_v44, val_main_v45]
  rw [indices_apply x0 x1 h, hit]

theorem mask_word (i : Fin 4096 → Fin 8) (l : Fin 8) (n : Fin 4096) : BitVec.setWidth 32 (BitVec.ofBool (decide (l = i n))) = BitVec.ofNat 32 (chose i n.val l) := by
  rw [chose_of]
  by_cases hl : l = i n
  · rw [if_pos hl, decide_eq_true hl]; rfl
  · rw [if_neg hl, decide_eq_false hl]; rfl

theorem mask_apply (h : Good x0 x1) (k : Fin 2) (l : Fin 8) (n : Fin 4096) :
    val_main_call0_v0 (F := Ideal) x0 x1 (ix3 k l n) = BitVec.ofNat 32 (chose (picks x0 x1 k) n.val l) := by
  pointwise [val_main_call0_v0]
  rw [v45_apply x0 x1 h, mask_word]

theorem v46_apply (h : Good x0 x1) (k : Fin 2) (l : Fin 8) (n : Fin 4096) :
    val_main_v46 (F := Ideal) x0 x1 (ix3 k l n) = BitVec.ofNat 32 (seen (picks x0 x1 k) (n.val + 1) l) :=
  running rfl (val_main_call0_v0 (F := Ideal) x0 x1) (fun m => chose (picks x0 x1 k) m l) k l (fun m => mask_apply x0 x1 h k l m)
    (val_main_call0_call0_v0 (F := Ideal)) (fun i => rfl) _ n

theorem index_word {N : ℕ} (k : Fin N) : IntOp.addi 0#32 (IntOp.muli 1#32 (BitVec.ofNat 32 k.val)) = BitVec.ofNat 32 k.val := by
  show 0#32 + 1#32 * BitVec.ofNat 32 k.val = _
  rw [BitVec.zero_add, BitVec.one_mul]

theorem v82_at0 (k : Fin 2) (l : Fin 8) (m : Fin 4096) : val_main_v82 (F := Ideal) x0 x1 (ix4 k l m 0) = BitVec.ofNat 32 k.val := by
  pointwise [val_main_v48, val_main_v49, val_main_v50, val_main_v51, val_main_v52, val_main_v58, val_main_v60, val_main_v62, val_main_v63, val_main_v64, val_main_v65, val_main_v66, val_main_v77, val_main_v79, val_main_v82, val_main_c_11, val_main_c_12, val_main_c_15, val_main_c_16]
  rw [index_word]
  exact no_wrap _ (by omega) _

theorem v82_at1 (k : Fin 2) (l : Fin 8) (m : Fin 4096) : val_main_v82 (F := Ideal) x0 x1 (ix4 k l m 1) = BitVec.ofNat 32 l.val := by
  pointwise [val_main_v53, val_main_v54, val_main_v55, val_main_v56, val_main_v57, val_main_v59, val_main_v61, val_main_v67, val_main_v68, val_main_v69, val_main_v70, val_main_v71, val_main_v78, val_main_v80, val_main_v82, val_main_c_13, val_main_c_14, val_main_c_17, val_main_c_18]
  rw [index_word]
  exact no_wrap _ (by omega) _

theorem v82_at2 (h : Good x0 x1) (k : Fin 2) (l : Fin 8) (m : Fin 4096) :
    val_main_v82 (F := Ideal) x0 x1 (ix4 k l m 2) = BitVec.ofNat 32 (seen (picks x0 x1 k) (m.val + 1) l) := by
  have := seen_le (picks x0 x1 k) (m.val + 1) l
  pointwise [val_main_v72, val_main_v73, val_main_v74, val_main_v75, val_main_v76, val_main_v81, val_main_v82, val_main_c_19, val_main_c_20]
  rw [v46_apply x0 x1 h]
  exact no_wrap _ (by omega) _

theorem v84_apply (h : Good x0 x1) (k : Fin 2) (l : Fin 8) (c : Fin 640) :
    val_main_v84 (F := Ideal) x0 x1 (ix3 k l c) = BitVec.ofNat 32 (Nat.count (fun m => seen (picks x0 x1 k) (m + 1) l = c.val) 4096) :=
  hist (val_main_v47 (F := Ideal)) (fun i => rfl) (val_main_v82 (F := Ideal) x0 x1) (val_main_v83 (F := Ideal)) (fun i => rfl)
    (fun k l m => seen (picks x0 x1 k) (m + 1) l) (v82_at0 x0 x1) (v82_at1 x0 x1) (v82_at2 x0 x1 h)
    (fun k l m => by have := seen_le (picks x0 x1 k) (m.val + 1) l; omega) k l c

theorem v85_apply (h : Good x0 x1) (k : Fin 2) (l : Fin 8) (c : Fin 640) :
    val_main_v85 (F := Ideal) x0 x1 (ix3 k l c) = BitVec.ofNat 32 (before (picks x0 x1 k) l c.val) :=
  (running rfl (val_main_v84 (F := Ideal) x0 x1) (fun y => Nat.count (fun m => seen (picks x0 x1 k) (m + 1) l = y) 4096) k l
    (fun y => v84_apply x0 x1 h k l y) (val_main_call1_call0_v0 (F := Ideal)) (fun i => rfl) _ c).trans
    (congrArg (BitVec.ofNat 32) ((Routing.sum_count_eq (fun m => seen (picks x0 x1 k) (m + 1) l) c.val 4096).trans (before_eq _ _ _).symm))

theorem v86_apply (h : Good x0 x1) (k : Fin 2) (l : Fin 8) (c : Fin 640) :
    val_main_v86 (F := Ideal) x0 x1 (ix3 k l c) = BitVec.ofNat 32 (before (picks x0 x1 k) l c.val) := by
  pointwise [val_main_call2_v0, val_main_call2_v1, val_main_call2_v2, val_main_call2_v3, val_main_call2_v4, val_main_call2_v5, val_main_call2_v6, val_main_call2_v7, val_main_call2_v8, val_main_call2_v9, val_main_call2_v10, val_main_call2_v11, val_main_call2_v12, val_main_call2_v13, val_main_call2_c, val_main_call2_c_0, val_main_v86, val_main_c_22]
  rw [v85_apply x0 x1 h]
  exact over_one ⟨before (picks x0 x1 k) l c.val, Nat.lt_succ_of_le (before_le _ _ _)⟩

theorem v87_apply (h : Good x0 x1) (k : Fin 2) (l : Fin 8) (c : Fin 640) :
    val_main_v87 (F := Ideal) x0 x1 (ix3 k l c) = BitVec.ofNat 32 (before (picks x0 x1 k) l c.val % 4096) := by
  pointwise [val_main_call3_v0, val_main_call3_v1, val_main_call3_v2, val_main_call3_v3, val_main_call3_v4, val_main_call3_v5, val_main_call3_v6, val_main_call3_v7, val_main_call3_v8, val_main_call3_v9, val_main_call3_v10, val_main_call3_v11, val_main_call3_v12, val_main_call3_v13, val_main_call3_v14, val_main_call3_c, val_main_call3_c_0, val_main_call3_c_1, val_main_call3_c_2, val_main_call3_c_3, val_main_v87, val_main_c_23]
  rw [v86_apply x0 x1 h]
  exact rem_tokens ⟨before (picks x0 x1 k) l c.val, Nat.lt_succ_of_le (before_le _ _ _)⟩

/-- The table of tokens: each place of each queue. -/
theorem v97_apply (h : Good x0 x1) (k : Fin 2) (l : Fin 8) (c : Fin 640) :
    val_main_v97 (F := Ideal) x0 x1 (ix3 k l c) = BitVec.ofNat 32 (spot (picks x0 x1 k) l c.val) := by
  have hs := seen_le (picks x0 x1 k) 4096 l
  pointwise [val_main_v88, val_main_v89, val_main_v90, val_main_v91, val_main_v92, val_main_v93, val_main_v94, val_main_v95, val_main_v96, val_main_v97, val_main_c_24, val_main_c_25, val_main_call4_v0]
  simp only [v45_apply x0 x1 h, mask_word]
  rw [fold_sum, Fin.sum_univ_eq_sum_range (fun m => chose (picks x0 x1 k) m l) 4096, past_end _ _ (by omega) (by
    show seen (picks x0 x1 k) 4096 l < 2 ^ 31
    omega), v87_apply x0 x1 h]
  show (if seen (picks x0 x1 k) 4096 l ≤ c.val then _ else _) = _
  rw [spot_eq]
  split_ifs with hc
  · rfl
  · rw [Nat.mod_eq_of_lt (before_lt _ _ _ hc)]

theorem v110_apply (h : Good x0 x1) (l : Fin 8) (c : Fin 640) :
    val_main_v110 (F := Ideal) x0 x1 (ix3 l c 0) = BitVec.ofNat 32 (spotAt (picks x0 x1 0) l c).val := by
  pointwise [val_main_v103, val_main_v104, val_main_v105, val_main_v106, val_main_v107, val_main_v108, val_main_v109, val_main_v110, val_main_c_28, val_main_c_29]
  rw [v97_apply x0 x1 h]
  exact no_wrap _ (by have := spot_le (picks x0 x1 0) l c.val; omega) _

theorem v146_apply (h : Good x0 x1) (l : Fin 8) (c : Fin 640) :
    val_main_v146 (F := Ideal) x0 x1 (ix3 l c 0) = BitVec.ofNat 32 (spotAt (picks x0 x1 0) l c).val := by
  pointwise [val_main_v103, val_main_v104, val_main_v141, val_main_v142, val_main_v143, val_main_v144, val_main_v145, val_main_v146, val_main_c_34, val_main_c_35]
  rw [v97_apply x0 x1 h]
  exact no_wrap _ (by have := spot_le (picks x0 x1 0) l c.val; omega) _

theorem v156_apply (h : Good x0 x1) (l : Fin 8) (c : Fin 640) :
    val_main_v156 (F := Ideal) x0 x1 (ix3 l c 0) = BitVec.ofNat 32 (spotAt (picks x0 x1 0) l c).val := by
  pointwise [val_main_v103, val_main_v104, val_main_v151, val_main_v152, val_main_v153, val_main_v154, val_main_v155, val_main_v156, val_main_c_36, val_main_c_37]
  rw [v97_apply x0 x1 h]
  exact no_wrap _ (by have := spot_le (picks x0 x1 0) l c.val; omega) _

theorem v169_apply (h : Good x0 x1) (l : Fin 8) (c : Fin 640) :
    val_main_v169 (F := Ideal) x0 x1 (ix3 l c 0) = BitVec.ofNat 32 (spotAt (picks x0 x1 1) l c).val := by
  pointwise [val_main_v162, val_main_v163, val_main_v164, val_main_v165, val_main_v166, val_main_v167, val_main_v168, val_main_v169, val_main_c_39, val_main_c_40]
  rw [v97_apply x0 x1 h]
  exact no_wrap _ (by have := spot_le (picks x0 x1 1) l c.val; omega) _

theorem v205_apply (h : Good x0 x1) (l : Fin 8) (c : Fin 640) :
    val_main_v205 (F := Ideal) x0 x1 (ix3 l c 0) = BitVec.ofNat 32 (spotAt (picks x0 x1 1) l c).val := by
  pointwise [val_main_v162, val_main_v163, val_main_v200, val_main_v201, val_main_v202, val_main_v203, val_main_v204, val_main_v205, val_main_c_45, val_main_c_46]
  rw [v97_apply x0 x1 h]
  exact no_wrap _ (by have := spot_le (picks x0 x1 1) l c.val; omega) _

theorem v215_apply (h : Good x0 x1) (l : Fin 8) (c : Fin 640) :
    val_main_v215 (F := Ideal) x0 x1 (ix3 l c 0) = BitVec.ofNat 32 (spotAt (picks x0 x1 1) l c).val := by
  pointwise [val_main_v162, val_main_v163, val_main_v210, val_main_v211, val_main_v212, val_main_v213, val_main_v214, val_main_v215, val_main_c_47, val_main_c_48]
  rw [v97_apply x0 x1 h]
  exact no_wrap _ (by have := spot_le (picks x0 x1 1) l c.val; omega) _

/-! ## The rows and the weights at the queues' places -/

/-- The rows with one of zeros after them, at a token. -/
theorem v37_token (p : Fin 4097) (n : Fin 4096) (hp : p.val = n.val) (k : Fin 1024) : val_main_v37 (F := Ideal) x0 (ix2 p k) = tok x0 n k := by
  obtain rfl : p = ⟨n.val, Nat.lt_succ_of_lt n.isLt⟩ := Fin.ext hp
  pointwise [val_main_v36, val_main_v37, val_main_cst_10]

theorem v102_token (h : Good x0 x1) (p : Fin 4097) (n : Fin 4096) (hp : p.val = n.val) :
    val_main_v102 (F := Ideal) x0 x1 (ix1 p) = prob1 (soft (score x0 x1 n)) := by
  obtain rfl : p = ⟨n.val, Nat.lt_succ_of_lt n.isLt⟩ := Fin.ext hp
  pointwise [val_main_v99, val_main_v100, val_main_v101, val_main_v102, val_main_cst_27]
  exact v16_apply x0 x1 h n 0

theorem v161_token (h : Good x0 x1) (p : Fin 4097) (n : Fin 4096) (hp : p.val = n.val) :
    val_main_v161 (F := Ideal) x0 x1 (ix1 p) = prob2 (soft (score x0 x1 n)) := by
  obtain rfl : p = ⟨n.val, Nat.lt_succ_of_lt n.isLt⟩ := Fin.ext hp
  pointwise [val_main_v158, val_main_v159, val_main_v160, val_main_v161, val_main_cst_38]
  exact v16_apply x0 x1 h n 1

theorem v111_apply (h : Good x0 x1) (l : Fin 8) (c : Fin 640) (k : Fin 1024) :
    val_main_v111 (F := Ideal) x0 x1 (ix3 l c k) = val_main_v37 (F := Ideal) x0 (ix2 (spotAt (picks x0 x1 0) l c) k) :=
  rows_at _ _ l c k _ (v110_apply x0 x1 h l c)

theorem v170_apply (h : Good x0 x1) (l : Fin 8) (c : Fin 640) (k : Fin 1024) :
    val_main_v170 (F := Ideal) x0 x1 (ix3 l c k) = val_main_v37 (F := Ideal) x0 (ix2 (spotAt (picks x0 x1 1) l c) k) :=
  rows_at _ _ l c k _ (v169_apply x0 x1 h l c)

theorem v147_apply (h : Good x0 x1) (l : Fin 8) (c : Fin 640) :
    val_main_v147 (F := Ideal) x0 x1 (ix2 l c) = val_main_v102 (F := Ideal) x0 x1 (ix1 (spotAt (picks x0 x1 0) l c)) :=
  weights_at _ _ l c _ (v146_apply x0 x1 h l c)

theorem v206_apply (h : Good x0 x1) (l : Fin 8) (c : Fin 640) :
    val_main_v206 (F := Ideal) x0 x1 (ix2 l c) = val_main_v161 (F := Ideal) x0 x1 (ix1 (spotAt (picks x0 x1 1) l c)) :=
  weights_at _ _ l c _ (v205_apply x0 x1 h l c)

/-! ## The experts -/

/-- Output `d` of expert `e` at token `n`, and of the shared expert. -/
abbrev expertAt (e : Fin 8) (n : Fin 4096) (d : Fin 1024) : EReal :=
  expert (tok x0 n) (fun h k => (x2 (ix3 e h k) : Ideal .f32)) (fun h => (x3 (ix2 e h) : Ideal .f32)) (fun d h => (x4 (ix3 e d h) : Ideal .f32))
    (fun d => (x5 (ix2 e d) : Ideal .f32)) (fun r k => (x6 (ix3 e r k) : Ideal .f32)) (fun d r => (x7 (ix3 e d r) : Ideal .f32)) d
abbrev sharedAt (n : Fin 4096) (d : Fin 1024) : EReal :=
  expert (tok x0 n) (fun h k => (x8 (ix2 h k) : Ideal .f32)) (fun h => (x9 (ix1 h) : Ideal .f32)) (fun d h => (x10 (ix2 d h) : Ideal .f32))
    (fun d => (x11 (ix1 d) : Ideal .f32)) (fun r k => (x12 (ix2 r k) : Ideal .f32)) (fun d r => (x13 (ix2 d r) : Ideal .f32)) d

/-- Output `d` of expert `l` at any row. -/
abbrev expertRow (row : Fin 1024 → EReal) (e : Fin 8) (d : Fin 1024) : EReal :=
  expert row (fun h k => (x2 (ix3 e h k) : Ideal .f32)) (fun h => (x3 (ix2 e h) : Ideal .f32)) (fun d h => (x4 (ix3 e d h) : Ideal .f32))
    (fun d => (x5 (ix2 e d) : Ideal .f32)) (fun r k => (x6 (ix3 e r k) : Ideal .f32)) (fun d r => (x7 (ix3 e d r) : Ideal .f32)) d

theorem v123_apply (l : Fin 8) (c : Fin 640) (h : Fin 4096) : val_main_v123 (F := Ideal) x0 x1 x2 x3 (ix3 l c h)
    = hiddenUnit (fun k => (val_main_v111 (F := Ideal) x0 x1 (ix3 l c k) : EReal)) (fun h k => (x2 (ix3 l h k) : Ideal .f32)) (fun h => (x3 (ix2 l h) : Ideal .f32)) h := by
  pointwise [val_main_v112, val_main_v113, val_main_v114, val_main_v115, val_main_v116, val_main_v117, val_main_v118, val_main_v119, val_main_v120, val_main_v121, val_main_v122, val_main_v123, val_main_cst_30, val_main_cst_31]
  rw [gelu_erfc]
  rfl

theorem v140_apply (l : Fin 8) (c : Fin 640) (d : Fin 1024) :
    val_main_v140 (F := Ideal) x0 x1 x2 x3 x4 x5 x6 x7 (ix3 l c d)
      = expertRow x2 x3 x4 x5 x6 x7 (fun k => (val_main_v111 (F := Ideal) x0 x1 (ix3 l c k) : EReal)) l d := by
  pointwise [val_main_v124, val_main_v125, val_main_v126, val_main_v127, val_main_v128, val_main_v129, val_main_v130, val_main_v131, val_main_v132, val_main_v133, val_main_v134, val_main_v135, val_main_v136, val_main_v137, val_main_v138, val_main_v139, val_main_v140, val_main_cst_32, val_main_cst_33]
  simp only [gelu_erfc, v123_apply]
  rfl

theorem v182_apply (l : Fin 8) (c : Fin 640) (h : Fin 4096) : val_main_v182 (F := Ideal) x0 x1 x2 x3 (ix3 l c h)
    = hiddenUnit (fun k => (val_main_v170 (F := Ideal) x0 x1 (ix3 l c k) : EReal)) (fun h k => (x2 (ix3 l h k) : Ideal .f32)) (fun h => (x3 (ix2 l h) : Ideal .f32)) h := by
  pointwise [val_main_v171, val_main_v172, val_main_v173, val_main_v174, val_main_v175, val_main_v176, val_main_v177, val_main_v178, val_main_v179, val_main_v180, val_main_v181, val_main_v182, val_main_cst_41, val_main_cst_42]
  rw [gelu_erfc]
  rfl

theorem v199_apply (l : Fin 8) (c : Fin 640) (d : Fin 1024) :
    val_main_v199 (F := Ideal) x0 x1 x2 x3 x4 x5 x6 x7 (ix3 l c d)
      = expertRow x2 x3 x4 x5 x6 x7 (fun k => (val_main_v170 (F := Ideal) x0 x1 (ix3 l c k) : EReal)) l d := by
  pointwise [val_main_v183, val_main_v184, val_main_v185, val_main_v186, val_main_v187, val_main_v188, val_main_v189, val_main_v190, val_main_v191, val_main_v192, val_main_v193, val_main_v194, val_main_v195, val_main_v196, val_main_v197, val_main_v198, val_main_v199, val_main_cst_43, val_main_cst_44]
  simp only [gelu_erfc, v182_apply]
  rfl

theorem v248_apply (n : Fin 4096) (d : Fin 1024) : val_main_v248 (F := Ideal) x0 x8 x9 x10 x11 x12 x13 (ix2 n d)
    = Ideal.ofBits .f32 0x3E4CCCCD#32 * sharedAt x0 x8 x9 x10 x11 x12 x13 n d := by
  pointwise [val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_cst_49, val_main_cst_50, val_main_cst_51, val_main_cst_52, val_main_cst_53]
  simp only [gelu_erfc]
  rfl

/-! ## The rows added back -/

/-- Weighted rows at the places of the queues, added back at a token: the lane that kept it. -/
theorem slot_sum (i : Fin 4096 → Fin 8) (n : Fin 4096) (row : Fin 8 → Fin 640 → EReal) (y : Fin 8 → EReal) (p : EReal)
    (hrow : ∀ l (c : Fin 640), (spotAt i l c).val = n.val → row l c = y l * p) :
    (∑ l : Fin 8, ∑ c : Fin 640, if (spotAt i l c).val = n.val then row l c else 0) = ∑ l : Fin 8, y l * gate i p n l := by
  refine Finset.sum_congr rfl fun l _ => ?_
  have e : (∑ c : Fin 640, if (spotAt i l c).val = n.val then row l c else 0) = ∑ c : Fin 640, if (spotAt i l c).val = n.val then y l * p else 0 :=
    Finset.sum_congr rfl fun c _ => by
      split_ifs with hc
      · exact hrow l c hc
      · rfl
  rw [e, sum_spot]
  unfold gate
  split_ifs
  · rfl
  · exact (mul_zero _).symm

theorem v150_token (h : Good x0 x1) (l : Fin 8) (c : Fin 640) (d : Fin 1024) (n : Fin 4096) (hn : (spotAt (picks x0 x1 0) l c).val = n.val) :
    val_main_v150 (F := Ideal) x0 x1 x2 x3 x4 x5 x6 x7 (ix3 l c d) = expertAt x0 x2 x3 x4 x5 x6 x7 l n d * prob1 (soft (score x0 x1 n)) := by
  pointwise [val_main_v148, val_main_v149, val_main_v150]
  rw [v140_apply, v147_apply x0 x1 h, v102_token x0 x1 h (spotAt (picks x0 x1 0) l c) n hn]
  simp only [v111_apply x0 x1 h, v37_token x0 (spotAt (picks x0 x1 0) l c) n hn]

theorem v209_token (h : Good x0 x1) (l : Fin 8) (c : Fin 640) (d : Fin 1024) (n : Fin 4096) (hn : (spotAt (picks x0 x1 1) l c).val = n.val) :
    val_main_v209 (F := Ideal) x0 x1 x2 x3 x4 x5 x6 x7 (ix3 l c d) = expertAt x0 x2 x3 x4 x5 x6 x7 l n d * prob2 (soft (score x0 x1 n)) := by
  pointwise [val_main_v207, val_main_v208, val_main_v209]
  rw [v199_apply, v206_apply x0 x1 h, v161_token x0 x1 h (spotAt (picks x0 x1 1) l c) n hn]
  simp only [v170_apply x0 x1 h, v37_token x0 (spotAt (picks x0 x1 1) l c) n hn]

theorem v157_apply (h : Good x0 x1) (n : Fin 4097) (m : Fin 4096) (hm : n.val = m.val) (d : Fin 1024) :
    val_main_v157 (F := Ideal) x0 x1 x2 x3 x4 x5 x6 x7 (ix2 n d)
      = ∑ e : Fin 8, expertAt x0 x2 x3 x4 x5 x6 x7 e m d * gate (pick1 (score x0 x1)) (prob1 (soft (score x0 x1 m))) m e := by
  refine (back_at _ _ _ (spotAt (picks x0 x1 0)) (v156_apply x0 x1 h) n d).trans ?_
  rw [hm, slot_sum (picks x0 x1 0) m _ (fun e => expertAt x0 x2 x3 x4 x5 x6 x7 e m d) (prob1 (soft (score x0 x1 m)))
    fun l c hc => v150_token x0 x1 x2 x3 x4 x5 x6 x7 h l c d m hc]
  exact (congrArg (· + _) Ideal.ofBits_zero_f32).trans (zero_add _)

theorem v217_apply (h : Good x0 x1) (n : Fin 4096) (d : Fin 1024) :
    val_main_v217 (F := Ideal) x0 x1 x2 x3 x4 x5 x6 x7 (ix2 n d)
    = (∑ e : Fin 8, expertAt x0 x2 x3 x4 x5 x6 x7 e n d * gate (pick1 (score x0 x1)) (prob1 (soft (score x0 x1 n))) n e)
      + ∑ e : Fin 8, expertAt x0 x2 x3 x4 x5 x6 x7 e n d * gate (pick2 (score x0 x1)) (prob2 (soft (score x0 x1 n))) n e := by
  pointwise [val_main_v217]
  refine (back_at _ _ _ (spotAt (picks x0 x1 1)) (v215_apply x0 x1 h) _ d).trans ?_
  refine congrArg₂ (· + ·) (v157_apply x0 x1 x2 x3 x4 x5 x6 x7 h _ n (by simp) d) ?_
  exact slot_sum (picks x0 x1 1) n _ (fun e => expertAt x0 x2 x3 x4 x5 x6 x7 e n d) (prob2 (soft (score x0 x1 n)))
    fun l c hc => v209_token x0 x1 x2 x3 x4 x5 x6 x7 h l c d n hc

end Cert.ReferenceIdeal.Own

end
-- ==== Proof.V.Pre.lean ====
/-
  The precondition: every entry of the tokens and of the router's weights is finite. Then every score is a real number,
  and every share of a softmax is above the mark −1.
-/
module

public import proofs.«01_k».proof.Pre_finite_router_inputs
public import proofs.«01_k».proof.Proof.V.RefValue
public import Idealize.ShloMosaic.Lib.ReduceAll

@[expose] public section

set_option maxRecDepth 16384

noncomputable section

namespace Cert.Pre_finite_router_inputs.Own

open Cert.Pre_finite_router_inputs Cert.Own
open Idealize.ShloMosaic

instance facts : Cert.Pre_finite_router_inputs.Facts where
  bcast_S_S2x2048x1024 := by decide
  reducesTo_S2x2048x1024_S_d0_1_2 := by decide
  h_S_ := by decide
  bcast_S_S1024x8 := by decide
  reducesTo_S1024x8_S_d0_1 := by decide

end Cert.Pre_finite_router_inputs.Own

namespace Cert.Pre_finite_router_inputs.Own

open Cert.Pre_finite_router_inputs Cert.Own
open Idealize.ShloMosaic

theorem real_of_cmp {a : Ideal .f32} (h : Ideal.cmp .olt (max a (-a)) (Ideal.ofBits .f32 0x7F800000#32) = 1#1) : Real' a := by
  rw [top_bits] at h
  refine real_of_abs_lt ?_
  by_contra hn
  simp [Ideal.cmp, hn] at h

theorem real_of_pre (x0 : FVec Ideal S2x2048x1024 .f32) (x1 : FVec Ideal S1024x8 .f32) (x2 : FVec Ideal S8x4096x1024 .f32) (x3 : FVec Ideal S8x4096 .f32)
    (x4 : FVec Ideal S8x1024x4096 .f32) (x5 : FVec Ideal S8x1024 .f32) (x6 : FVec Ideal S8x32x1024 .f32) (x7 : FVec Ideal S8x1024x32 .f32)
    (x8 : FVec Ideal S4096x1024 .f32) (x9 : FVec Ideal S4096 .f32) (x10 : FVec Ideal S1024x4096 .f32) (x11 : FVec Ideal S1024 .f32)
    (x12 : FVec Ideal S32x1024 .f32) (x13 : FVec Ideal S1024x32 .f32)
    (h : fn (F := Ideal) x0 x1 x2 x3 x4 x5 x6 x7 x8 x9 x10 x11 x12 x13 = fun _ => 1#1) :
    (∀ i, Real' (x0 i)) ∧ ∀ i, Real' (x1 i) := by
  have h0 := congrFun h ix0
  unfold fn at h0
  dsimp only at h0
  have h1 : IntOp.andi _ _ = 1#1 := h0
  obtain ⟨ha, hb⟩ := IntOp.andi_eq_one.1 h1
  haveI : Subsingleton S_.Idx := ⟨fun a b => funext fun q => q.elim0⟩
  refine ⟨fun i => ?_, fun i => ?_⟩
  · exact real_of_cmp (Host.reduce_andi_all _ _ _ _ _ ha i)
  · exact real_of_cmp (Host.reduce_andi_all _ _ _ _ _ hb i)

/-- Real tokens and weights make every score a real number. -/
theorem scores_of_real (x0 : FVec Ideal S2x2048x1024 .f32) (x1 : FVec Ideal S1024x8 .f32) (h0 : ∀ i, Real' (x0 i)) (h1 : ∀ i, Real' (x1 i)) :
    ∀ n l, Real' (Cert.ReferenceIdeal.Own.score x0 x1 n l) := fun n l => by
  unfold Cert.ReferenceIdeal.Own.score
  refine Real'.sum fun k => Real'.mul ?_ (h1 _)
  unfold Cert.ReferenceIdeal.Own.tok
  rw [Cert.ReferenceIdeal.Read.val_main_v0_apply]
  exact h0 _

/-- So every share stands above the mark. -/
theorem good_of_real (x0 : FVec Ideal S2x2048x1024 .f32) (x1 : FVec Ideal S1024x8 .f32) (h0 : ∀ i, Real' (x0 i)) (h1 : ∀ i, Real' (x1 i)) :
    Cert.ReferenceIdeal.Own.Good x0 x1 := fun n => above_of_real fun l => scores_of_real x0 x1 h0 h1 n l

end Cert.Pre_finite_router_inputs.Own

end
-- ==== Proof.V.ExpertPay.lean ====
/-
  The expert kernel's payloads read at an index, over the extended reals.
-/
module

public import proofs.«01_k».proof.Proof.KI.ExpertBody
public import proofs.«01_k».proof.Proof.V.Spec
public import Idealize.ShloMosaic.Lib.Pointwise

@[expose] public section

set_option maxRecDepth 16384

noncomputable section

namespace Cert.KernelIdeal.Own

open Cert.KernelIdeal Cert.KernelIdeal.Gen Cert.Own
open Idealize.ShloMosaic Idealize.ShloMosaic.TcCoe

/-- A choice on the equality of two words. -/
theorem select_eq {α : Type} {n : ℕ} (a b : BitVec n) (x y : α) :
    Scalar.select (IntOp.cmpi .eq a b) x y = if a = b then x else y := by
  by_cases h : a = b
  · subst h; simp [Scalar.select, IntOp.cmpi]
  · have hb : (a == b) = false := by simp [h]
    simp [Scalar.select, IntOp.cmpi, h, hb]

/-- One hidden block's share of an expert's output. -/
theorem pay5_apply (x : Vec Ideal S1024x1024 .bf16) (w1 : Vec Ideal S1x512x1024 .bf16) (b1 : Vec Ideal S1x512 .f32)
    (w2 : Vec Ideal S1x1024x512 .bf16) (r d : Fin 1024) :
    k1_pay5 (F := Ideal) x w1 b1 w2 (ix2 r d)
      = ∑ h : Fin 512, hiddenUnit (fun k => x (ix2 r k)) (fun h k => w1 (ix3 0 h k)) (fun h => b1 (ix2 0 h)) h * w2 (ix3 0 d h) := by
  pointwise [k1_pay5, k1_pay4]
  rfl

/-- The adapter's product. -/
theorem adapter_apply (x : Vec Ideal S1024x1024 .bf16) (dw : Vec Ideal S1x32x1024 .bf16) (uw : Vec Ideal S1x1024x32 .bf16)
    (v23 : FVec Ideal S1024x1024 .f32) (b2 : Vec Ideal S1x1024 .f32) (acc : Vec Ideal S1024x1024 .f32) (j : BitVec 32) (r d : Fin 1024) :
    k1_pay1 (F := Ideal) j v23 (k1_pay6 uw) (k1_pay8 x dw) (k1_pay9 x dw) b2 acc (ix2 r d)
      = (if j = 0#32 then adapter (fun k => x (ix2 r k)) (fun q k => dw (ix3 0 q k)) (fun d q => uw (ix3 0 d q)) d + b2 (ix2 0 d)
          else acc (ix2 r d)) + v23 (ix2 r d) := by
  pointwise [k1_pay1, k1_pay6, k1_pay8, k1_pay9, k1_pay7, k1_pay4]
  exact congrArg (· + _) (select_eq j 0#32 _ _)

theorem pay2_apply (x : Vec Ideal S1024x1024 .bf16) (dw : Vec Ideal S1x32x1024 .bf16) (uw : Vec Ideal S1x1024x32 .bf16)
    (v23 : FVec Ideal S1024x1024 .f32) (b2 : Vec Ideal S1x1024 .f32) (acc : Vec Ideal S1024x1024 .f32) (j : BitVec 32) (r d : Fin 1024) :
    k1_pay2 (F := Ideal) j v23 (k1_pay6 uw) (k1_pay8 x dw) (k1_pay9 x dw) b2 acc (ix2 r d)
      = (if j = 0#32 then adapter (fun k => x (ix2 r k)) (fun q k => dw (ix3 0 q k)) (fun d q => uw (ix3 0 d q)) d + b2 (ix2 0 d)
          else acc (ix2 r d)) + v23 (ix2 r d) := by
  rw [← adapter_apply]
  pointwise [k1_pay2]

theorem pay3_apply (e j : BitVec 32) (v23 : FVec Ideal S1024x1024 .f32) (v29 : FVec Ideal S1024x32 .bf16) (v32 v35 : FVec Ideal S1024x32 .f32)
    (b2 : Vec Ideal S1x1024 .f32) (acc o : Vec Ideal S1024x1024 .f32) (w9 : Vec Ideal S1024x9 .f32) (r d : Fin 1024) :
    k1_pay3 (F := Ideal) e j v23 v29 v32 v35 b2 acc w9 o (ix2 r d)
      = (if e = 0#32 then 0 else o (ix2 r d))
        + (∑ l : Fin 9, if BitVec.ofNat 32 l.val = e then w9 (ix2 r l) else 0)
          * k1_pay1 (F := Ideal) j v23 v29 v32 v35 b2 acc (ix2 r d) := by
  pointwise [k1_pay3]
  exact congrArg₂ (· + ·) (select_eq e 0#32 _ _)
    (congrArg (· * _) (Finset.sum_congr rfl fun l _ => select_eq (BitVec.ofNat 32 l.val) e _ _))

end Cert.KernelIdeal.Own

end
-- ==== Proof.V.RouterPay.lean ====
/-
  The routing kernel's payloads read at an index, over the extended reals.
-/
module

public import proofs.«01_k».proof.Proof.KI.RouterBody
public import proofs.«01_k».proof.Proof.V.ExpertPay
public import proofs.«01_k».proof.Proof.V.Choice
public import Idealize.ShloMosaic.Lib.Pointwise
public import Idealize.ShloMosaic.Lib.Pipeline.Value

@[expose] public section

set_option maxRecDepth 16384

noncomputable section

namespace Cert.KernelIdeal.Own

open Cert.KernelIdeal Cert.KernelIdeal.Gen Cert.Own
open Idealize.ShloMosaic Idealize.ShloMosaic.TcCoe

/-! ## The choice -/

section choice
variable (x : Vec Ideal S1024x1024 .f32) (w : Vec Ideal S1024x8 .f32)

/-- The scores of token `r` of a block. -/
def scores (r : Fin 1024) (l : Fin 8) : EReal := ∑ k : Fin 1024, x (ix2 r k) * w (ix2 k l)

theorem pay2r_apply (r : Fin 1024) (l : Fin 8) : k0_pay2 (F := Ideal) x w (ix2 r l) = scores x w r l := by
  pointwise [k0_pay2]
  rfl

theorem pay3r_apply (r : Fin 1024) : k0_pay3 (F := Ideal) x w (ix2 r 0) = rowMax (scores x w r) := by
  rw [← funext (pay2r_apply x w r)]
  pointwise [k0_pay3]
  rfl

theorem pay5r_apply (r : Fin 1024) : k0_pay5 (F := Ideal) x w (ix2 r 0) = expSum (scores x w r) := by
  unfold expSum
  simp only [← pay3r_apply, ← pay2r_apply]
  pointwise [k0_pay5, k0_pay4]

theorem pay6r_apply (r : Fin 1024) (l : Fin 8) : k0_pay6 (F := Ideal) x w (ix2 r l) = soft (scores x w r) l := by
  unfold soft
  simp only [← pay5r_apply, ← pay3r_apply, ← pay2r_apply]
  pointwise [k0_pay6, k0_pay4]

theorem pay8r_apply (r : Fin 1024) : k0_pay8 (F := Ideal) x w (ix2 r 0) = top1 (soft (scores x w r)) := by
  refine Eq.trans ?_ (rowMax_eq (first_spec _))
  rw [← funext (pay6r_apply x w r)]
  pointwise [k0_pay8]
  rfl

theorem pay9r_apply (r : Fin 1024) : k0_pay9 (F := Ideal) x w (ix2 r 0) = BitVec.ofNat 32 (first (soft (scores x w r))).val := by
  refine Eq.trans ?_ (fold_first (first_spec _))
  have h := pay8r_apply x w r
  unfold top1 at h
  simp only [← h, ← pay6r_apply]
  pointwise [k0_pay9]

theorem lane_eq (a b : Fin 8) : BitVec.ofNat 32 a.val = BitVec.ofNat 32 b.val ↔ a = b := by
  rw [← BitVec.toNat_inj, ← Fin.val_inj]
  simp only [BitVec.toNat_ofNat]
  omega

theorem pay10r_apply (r : Fin 1024) (l : Fin 8) :
    k0_pay10 (F := Ideal) x w (ix2 r l) = without (soft (scores x w r)) (first (soft (scores x w r))) l := by
  unfold without
  simp only [← lane_eq l, ← pay9r_apply, ← pay6r_apply]
  rw [← select_eq]
  pointwise [k0_pay10]

theorem pay11r_apply (r : Fin 1024) : k0_pay12 (k0_pay11 (F := Ideal) x w) (ix2 r 0) = top2 (soft (scores x w r)) := by
  refine Eq.trans ?_ (rowMax_eq (first_spec _))
  rw [← funext (pay10r_apply x w r)]
  pointwise [k0_pay12, k0_pay11]
  rfl

theorem pay13r_apply (r : Fin 1024) :
    k0_pay13 lanes (k0_pay10 (F := Ideal) x w) (k0_pay11 x w) (ix2 r 0) = BitVec.ofNat 32 (second (soft (scores x w r))).val := by
  refine Eq.trans ?_ (fold_first (i := second (soft (scores x w r))) (first_spec _))
  have h := pay11r_apply x w r
  unfold top2 at h
  simp only [← h]
  simp only [← pay10r_apply]
  pointwise [k0_pay13, lanes]

theorem pay15r_apply (r : Fin 1024) : k0_pay15 (k0_pay8 (F := Ideal) x w) (k0_pay11 x w) (ix2 r 0) = prob1 (soft (scores x w r)) := by
  unfold prob1
  rw [← pay11r_apply, ← pay8r_apply]
  pointwise [k0_pay15, k0_pay14]

theorem pay16r_apply (r : Fin 1024) : k0_pay16 (k0_pay8 (F := Ideal) x w) (k0_pay11 x w) (ix2 r 0) = prob2 (soft (scores x w r)) := by
  unfold prob2
  rw [← pay11r_apply, ← pay8r_apply]
  pointwise [k0_pay16, k0_pay14]

theorem probsOf_apply (r : Fin 1024) (l : Fin 2) :
    probsOf (F := Ideal) x w (ix2 r l) = if l = 0 then prob1 (soft (scores x w r)) else prob2 (soft (scores x w r)) := by
  rw [← pay15r_apply, ← pay16r_apply]
  fin_cases l <;> pointwise [probsOf, k0_pay17]

theorem idxOf_apply (r : Fin 1024) (l : Fin 2) :
    idxOf (F := Ideal) x w (ix2 r l)
      = BitVec.ofNat 32 (if l = 0 then first (soft (scores x w r)) else second (soft (scores x w r))).val := by
  rw [apply_ite Fin.val, apply_ite (BitVec.ofNat 32), ← pay9r_apply, ← pay13r_apply]
  fin_cases l <;> pointwise [idxOf, k0_pay18]

/-- The number of a condition's word. -/
theorem sitofp_eq (a b : BitVec 32) :
    (FloatOps.sitofp .f32 (BitVec.setWidth 32 (IntOp.cmpi .eq a b)) : Ideal .f32) = if a = b then 1 else 0 := by
  show (((BitVec.setWidth 32 (IntOp.cmpi .eq a b)).toInt : ℝ) : EReal) = _
  by_cases h : a = b
  · subst h
    simp [IntOp.cmpi]
  · have hb : (a == b) = false := by simp [h]
    simp [IntOp.cmpi, hb, h]

theorem hot1_apply (r : Fin 1024) (l : Fin 8) :
    hot1 (F := Ideal) x w (ix2 r l) = if l = first (soft (scores x w r)) then 1 else 0 := by
  simp only [← lane_eq l, ← pay9r_apply]
  rw [← sitofp_eq]
  pointwise [hot1, k0_pay19]

theorem hot2_apply (r : Fin 1024) (l : Fin 8) :
    hot2 (F := Ideal) x w (ix2 r l) = if l = second (soft (scores x w r)) then 1 else 0 := by
  simp only [← lane_eq l, ← pay13r_apply]
  rw [← sitofp_eq]
  pointwise [hot2, k0_pay20]

/-- The block's sum of squared log-sum-exps is added to what the blocks before left. -/
theorem zNext_apply (i : grid0.Coords) (z : Vec Ideal S1x1 .f32) :
    zNext (F := Ideal) i x w z (ix2 0 0)
      = (if (i 0).val = 0 then 0 else z (ix2 0 0))
        + ∑ r : Fin 1024, (rowMax (scores x w r) + Ideal.log (expSum (scores x w r))) * (rowMax (scores x w r) + Ideal.log (expSum (scores x w r))) := by
  simp only [← pay5r_apply, ← pay3r_apply]
  pointwise [zNext, k0_pay7]
  refine congrArg₂ (· + ·) ((select_eq (BitVec.ofNat 32 (i 0).val) 0#32 _ _).trans (if_congr ?_ rfl ?_)) (Finset.sum_congr rfl fun r _ => ?_)
  · rw [← BitVec.toNat_inj]
    have := (i 0).isLt
    have hG : (i 0).val < 4 := this
    simp only [BitVec.toNat_ofNat]
    omega
  · exact congrArg z (funext fun a => by fin_cases a <;> rfl)
  · exact Fin.sum_univ_one _

end choice

/-! ## Running counts -/

/-- `v` holds at row `r` the sum of the last `s` rows of `f` up to `r`. -/
def Running (s : ℕ) (f : ℕ → Fin 8 → EReal) (v : FVec Ideal S1024x8 .f32) : Prop :=
  ∀ (r : Fin 1024) (l : Fin 8), v (ix2 r l) = ∑ q ∈ Finset.range (r.val + 1), if r.val < q + s then f q l else 0

/-- Adding the rows `s` further up doubles the reach. -/
theorem Running.double {s m : ℕ} {f : ℕ → Fin 8 → EReal} {v : FVec Ideal S1024x8 .f32} (h : Running s f v) (hs : s + m = 1024) (hs0 : 0 < s)
    (hsl : S1024x8.Slices ![0, 0] ⟨2, ![m, 8]⟩)
    (hc : Shape.Concatenates [⟨2, ![s, 8]⟩, ⟨2, ![m, 8]⟩] S1024x8 0) :
    Running (s + s) f (addf v (concatenate S1024x8 0 [⟨⟨2, ![s, 8]⟩, broadcast ⟨2, ![s, 8]⟩ (Scalar.ofBits (F := Ideal) .f32 0x00000000#32)⟩,
      ⟨⟨2, ![m, 8]⟩, extractStridedSlice ⟨2, ![m, 8]⟩ ![0, 0] v hsl⟩] hc)) := by
  intro r l
  have hr := r.isLt
  let Z : FVec Ideal ⟨2, ![s, 8]⟩ .f32 := broadcast ⟨2, ![s, 8]⟩ (Scalar.ofBits (F := Ideal) .f32 0x00000000#32)
  show v (ix2 r l) + concatenate S1024x8 0 [⟨⟨2, ![s, 8]⟩, Z⟩, ⟨⟨2, ![m, 8]⟩, extractStridedSlice ⟨2, ![m, 8]⟩ ![0, 0] v hsl⟩] hc (ix2 r l) = _
  by_cases hlt : r.val < s
  · rw [concatenate_pair_apply_left 0 _ _ hc (ix2 r l) rfl (ix2 ⟨r.val, hlt⟩ l) (fun b => by fin_cases b <;> rfl), h r l]
    have hz : Z (ix2 ⟨r.val, hlt⟩ l) = (0 : EReal) := by
      show Ideal.ofBits .f32 0x00000000#32 = (0 : EReal)
      simp [Ideal.ofBits, Ideal.ieee]
    rw [hz, add_zero]
    refine Finset.sum_congr rfl fun q _ => ?_
    rw [if_pos (by omega), if_pos (by omega)]
  · have hm : r.val - s < m := by omega
    rw [concatenate_pair_apply_right 0 _ _ hc (ix2 r l) rfl rfl (ix2 ⟨r.val - s, hm⟩ l)
        (fun b hb => by fin_cases b; exact absurd rfl hb; rfl) (by show r.val - s + s = r.val; omega)]
    rw [extractStridedSlice_apply ![0, 0] v hsl (ix2 ⟨r.val - s, hm⟩ l) (ix2 ⟨r.val - s, by omega⟩ l)
        (fun a => by fin_cases a <;> exact (Nat.zero_add _).symm)]
    rw [h r l, h ⟨r.val - s, by omega⟩ l]
    have e1 : ∑ q ∈ Finset.range (r.val - s + 1), (if r.val - s < q + s then f q l else 0)
        = ∑ q ∈ Finset.range (r.val + 1), if r.val < q + (s + s) ∧ q + s ≤ r.val then f q l else 0 := by
      have e2 : r.val + 1 = r.val - s + 1 + s := by omega
      rw [e2, Finset.sum_range_add _ (r.val - s + 1) s, Finset.sum_eq_zero (s := Finset.range s) (fun q _ => if_neg (by omega)), add_zero]
      refine Finset.sum_congr rfl fun q hq => if_congr ?_ rfl rfl
      have := Finset.mem_range.mp hq
      omega
    rw [e1, ← Finset.sum_add_distrib]
    refine Finset.sum_congr rfl fun q _ => ?_
    by_cases h1 : r.val < q + s
    · rw [if_pos h1, if_neg (by omega), if_pos (by omega), add_zero]
    · by_cases h2 : r.val < q + (s + s)
      · rw [if_neg h1, if_pos (by omega), if_pos h2, zero_add]
      · rw [if_neg h1, if_neg (by omega), if_neg h2, add_zero]

theorem Running.of_one {f : ℕ → Fin 8 → EReal} {v : FVec Ideal S1024x8 .f32} (h : ∀ r l, v (ix2 r l) = f r.val l) : Running 1 f v := by
  intro r l
  rw [h, Finset.sum_range_succ, if_pos (by omega), Finset.sum_eq_zero (fun q hq => if_neg (by have := Finset.mem_range.mp hq; omega)), zero_add]

theorem Running.total {f : ℕ → Fin 8 → EReal} {v : FVec Ideal S1024x8 .f32} (h : Running 1024 f v) (r : Fin 1024) (l : Fin 8) :
    v (ix2 r l) = ∑ q ∈ Finset.range (r.val + 1), f q l := by
  rw [h]
  exact Finset.sum_congr rfl fun q _ => if_pos (by omega)

theorem running1 {f : ℕ → Fin 8 → EReal} (x : Vec Ideal S1024x1024 .f32) (w : Vec Ideal S1024x8 .f32)
    (h : ∀ r l, hot1 (F := Ideal) x w (ix2 r l) = f r.val l) : Running 1024 f (run1 (F := Ideal) x w) := by
  have h64 : Running 64 f (k0_pay21 (F := Ideal) lanes (k0_pay9 x w)) :=
    (((((((Running.of_one h).double (m := 1023) (by omega) (by omega) _ _).double (m := 1022) (by omega) (by omega) _ _).double (m := 1020) (by omega) (by omega) _ _).double
      (m := 1016) (by omega) (by omega) _ _).double (m := 1008) (by omega) (by omega) _ _).double (m := 992) (by omega) (by omega) _ _)
  exact ((((h64.double (m := 960) (by omega) (by omega) _ _).double (m := 896) (by omega) (by omega) _ _).double (m := 768) (by omega) (by omega) _ _).double
    (m := 512) (by omega) (by omega) _ _)

/-- The last two of the ten steps of the second choices' running counts. -/
def run2all (v : FVec Ideal S1024x8 .f32) : FVec Ideal S1024x8 .f32 :=
  have v136 : FVec Ideal S1024x8 .f32 := addf v (concatenate S1024x8 0 [⟨S256x8, broadcast S256x8 (Scalar.ofBits .f32 0x00000000#32)⟩,
    ⟨S768x8, extractStridedSlice S768x8 ![0, 0] v slices_S1024x8_o0_0_S768x8⟩] concatenates_S256x8_S768x8_S1024x8_d0)
  addf v136 (concatenate S1024x8 0 [⟨S512x8, broadcast S512x8 (Scalar.ofBits .f32 0x00000000#32)⟩,
    ⟨S512x8, extractStridedSlice S512x8 ![0, 0] v136 slices_S1024x8_o0_0_S512x8⟩] concatenates_S512x8_S512x8_S1024x8_d0)

theorem running2 {f : ℕ → Fin 8 → EReal} (x : Vec Ideal S1024x1024 .f32) (w : Vec Ideal S1024x8 .f32)
    (h : ∀ r l, hot2 (F := Ideal) x w (ix2 r l) = f r.val l) : Running 1024 f (run2all (run2 (F := Ideal) x w)) := by
  have h256 : Running 256 f (k0_pay23 (F := Ideal) (hot2 x w)) :=
    (((((((((Running.of_one h).double (m := 1023) (by omega) (by omega) _ _).double (m := 1022) (by omega) (by omega) _ _).double (m := 1020) (by omega) (by omega) _ _).double
      (m := 1016) (by omega) (by omega) _ _).double (m := 1008) (by omega) (by omega) _ _).double (m := 992) (by omega) (by omega) _ _).double
      (m := 960) (by omega) (by omega) _ _).double (m := 896) (by omega) (by omega) _ _)
  exact ((h256.double (m := 768) (by omega) (by omega) _ _).double (m := 512) (by omega) (by omega) _ _)

/-- The number of a comparison's word. -/
theorem keep_eq (P : Prop) [Decidable P] :
    (FloatOps.sitofp .f32 (BitVec.setWidth 32 (BitVec.ofBool (decide P))) : Ideal .f32) = if P then 1 else 0 := by
  show (((BitVec.setWidth 32 (BitVec.ofBool (decide P))).toInt : ℝ) : EReal) = _
  by_cases h : P <;> simp [h]

theorem pay25_apply (a : BitVec 32) (p1 p2 : FVec Ideal S1024x1 .f32) (h1 h2 r1 r2 : FVec Ideal S1024x8 .f32) (n : Vec Ideal S2x8 .f32)
    (r : Fin 1024) (l : Fin 8) :
    k0_pay25 (F := Ideal) a p1 p2 h1 h2 r1 r2 n (ix2 r l)
      = h1 (ix2 r l) * (p1 (ix2 r 0) * if ∑ k : Fin 8, h1 (ix2 r k) * (r1 (ix2 r k) + if a = 0#32 then 0 else n (ix2 0 k))
            ≤ Ideal.ofBits .f32 0x44200000#32 then 1 else 0)
        + h2 (ix2 r l) * (p2 (ix2 r 0) * if ∑ k : Fin 8, h2 (ix2 r k) * (run2all r2 (ix2 r k) + if a = 0#32 then 0 else n (ix2 1 k))
            ≤ Ideal.ofBits .f32 0x44200000#32 then 1 else 0) := by
  simp only [← select_eq a, ← keep_eq]
  pointwise [k0_pay25, k0_pay24, run2all]
  rfl

theorem point0_zero (i : grid0.Coords) : BitVec.ofNat 32 (i 0).val = 0#32 ↔ (i 0).val = 0 := by
  rw [← BitVec.toNat_inj]
  have hG : (i 0).val < 4 := (i 0).isLt
  simp only [BitVec.toNat_ofNat]
  omega

theorem cntNext_apply (i : grid0.Coords) (x : Vec Ideal S1024x1024 .f32) (w : Vec Ideal S1024x8 .f32) (n : Vec Ideal S2x8 .f32) (k : Fin 2)
    (l : Fin 8) :
    cntNext (F := Ideal) i x w n (ix2 k l)
      = (if (i 0).val = 0 then 0 else n (ix2 k l))
        + if k.val < 1 then ∑ r : Fin 1024, hot1 (F := Ideal) x w (ix2 r l) else ∑ r : Fin 1024, hot2 (F := Ideal) x w (ix2 r l) := by
  simp only [← point0_zero]
  rw [← select_eq]
  pointwise [cntNext, k0_pay1, k0_pay24, k0_pay26]
  rfl

end Cert.KernelIdeal.Own

end
-- ==== Proof.V.RouterValue.lean ====
/-
  What the routing kernel's launch leaves in its four results, over the extended reals.
-/
module

public import proofs.«01_k».proof.Proof.KI.RouterRegion
public import proofs.«01_k».proof.Proof.V.RouterPay
public import Idealize.ShloMosaic.Lib.Pipeline.ValueKit

@[expose] public section

set_option maxRecDepth 16384

noncomputable section

namespace Cert.KernelIdeal.Own

open Cert.KernelIdeal Cert.KernelIdeal.Gen Cert.Own
open Idealize.ShloMosaic Idealize.ShloMosaic.TcCoe

theorem index0_0 : ∀ t : Fin cfg0.N, win0_0.index t = ![t.val, 0] := by decide +kernel
theorem index0_1 : ∀ t : Fin cfg0.N, win0_1.index t = ![0, 0] := by decide +kernel
theorem index0_2 : ∀ t : Fin cfg0.N, win0_2.index t = ![t.val, 0] := by decide +kernel
theorem index0_3 : ∀ t : Fin cfg0.N, win0_3.index t = ![t.val, 0] := by decide +kernel
theorem index0_4 : ∀ t : Fin cfg0.N, win0_4.index t = ![t.val, 0] := by decide +kernel
theorem index0_5 : ∀ t : Fin cfg0.N, win0_5.index t = ![0, 0] := by decide +kernel

variable (V : Dev nD → Valuation τ sig (Elt Ideal))

theorem blk0_0_apply (c : Dev nD) (t : Fin cfg0.N) (r k : Fin 1024) (R : Fin 4096) (hR : R.val = t.val * 1024 + r.val) :
    blk0 V c 0 t (ix2 r k) = V c (Proc.devRef .tc main_v0) (ix2 R k) := by
  show V c (Proc.devRef .tc main_v0) (((cfg0.win 0).blk t).view.emb (ix2 r k)) = _
  refine congrArg _ ?_
  blk_ext [index0_0]

theorem blk0_1_apply (c : Dev nD) (t : Fin cfg0.N) (k : Fin 1024) (l : Fin 8) :
    blk0 V c 1 t (ix2 k l) = V c (Proc.devRef .tc main_arg1) (ix2 k l) := by
  show V c (Proc.devRef .tc main_arg1) (((cfg0.win 1).blk t).view.emb (ix2 k l)) = _
  refine congrArg _ ?_
  blk_ext [index0_1]

/-- The tokens and the router's weights, as the launch finds them. -/
abbrev tokens (c : Dev nD) (n : Fin 4096) (k : Fin 1024) : Ideal .f32 := V c (Proc.devRef .tc main_v0) (ix2 n k)
abbrev routerOf (c : Dev nD) (k : Fin 1024) (l : Fin 8) : Ideal .f32 := V c (Proc.devRef .tc main_arg1) (ix2 k l)

/-- The scores of token `n`, from the arrays the launch finds. -/
def logits (c : Dev nD) (n : Fin 4096) (l : Fin 8) : EReal :=
  ∑ k : Fin 1024, tokens V c n k * routerOf V c k l

theorem scores_eq (c : Dev nD) (t : Fin cfg0.N) (r : Fin 1024) (R : Fin 4096) (hR : R.val = t.val * 1024 + r.val) :
    scores (blk0 V c 0 t) (blk0 V c 1 t) r = logits V c R := by
  funext l
  unfold scores logits
  exact Finset.sum_congr rfl fun k _ => congrArg₂ (· * ·) (blk0_0_apply V c t r k R hR) (blk0_1_apply V c t k l)

/-- The token at row `r` of block `b`. -/
def tok (b : ℕ) (hb : b < 4) (r : Fin 1024) : Fin 4096 := ⟨b * 1024 + r.val, by omega⟩

theorem hot1_chose (c : Dev nD) (t : Fin cfg0.N) (r : Fin 1024) (l : Fin 8) :
    hot1 (F := Ideal) (blk0 V c 0 t) (blk0 V c 1 t) (ix2 r l) = ((chose (pick1 (logits V c)) (t.val * 1024 + r.val) l : ℕ) : EReal) := by
  have ht : t.val < 4 := t.isLt
  refine ((hot1_apply _ _ r l).trans ?_).trans (congrArg Nat.cast (chose_of (pick1 (logits V c)) (tok t.val ht r) l)).symm
  rw [scores_eq V c t r (tok t.val ht r) rfl]
  unfold pick1
  split_ifs <;> simp

theorem hot2_chose (c : Dev nD) (t : Fin cfg0.N) (r : Fin 1024) (l : Fin 8) :
    hot2 (F := Ideal) (blk0 V c 0 t) (blk0 V c 1 t) (ix2 r l) = ((chose (pick2 (logits V c)) (t.val * 1024 + r.val) l : ℕ) : EReal) := by
  have ht : t.val < 4 := t.isLt
  refine ((hot2_apply _ _ r l).trans ?_).trans (congrArg Nat.cast (chose_of (pick2 (logits V c)) (tok t.val ht r) l)).symm
  rw [scores_eq V c t r (tok t.val ht r) rfl]
  unfold pick2
  split_ifs <;> simp

theorem coord0_zero (t : Fin cfg0.N) : (grid0.coords t 0).val = 0 ↔ t.val = 0 := by rw [coord0_0]

/-- The tokens counted before block `b`. -/
theorem cntAt_apply (c : Dev nD) (k : Fin 2) (l : Fin 8) : ∀ b : ℕ, b < 4 →
    (if b = 0 then (0 : EReal) else cntAt V c b (ix2 k l))
      = ((seen (if k.val < 1 then pick1 (logits V c) else pick2 (logits V c)) (b * 1024) l : ℕ) : EReal) := by
  intro b
  induction b with
  | zero => intro _; simp [seen]
  | succ b ih =>
    intro hb
    have ht : b < cfg0.N := by have : cfg0.N = 4 := N_0; omega
    rw [if_neg (Nat.succ_ne_zero b)]
    refine (congrFun (cntAt_succ V c ⟨b, ht⟩) _).trans ?_
    rw [cntNext_apply, if_congr (coord0_zero ⟨b, ht⟩) rfl rfl]
    refine (congrArg (· + _) (ih (by omega))).trans ?_
    simp only [hot1_chose, hot2_chose]
    unfold seen
    rw [Nat.succ_mul, Finset.sum_range_add, Nat.cast_add, Finset.sum_range (n := 1024)]
    refine congrArg _ ?_
    split_ifs <;> exact (Nat.cast_sum _ _).symm

/-- A choice's place in its expert's queue, as the block computes it. -/
theorem rank_eq (i : Fin 4096 → Fin 8) (n : Fin 4096) (b : ℕ) (r : Fin 1024) (hn : n.val = b * 1024 + r.val)
    (h run cnt : Fin 8 → EReal) (hh : ∀ l, h l = ((chose i n.val l : ℕ) : EReal))
    (hrun : ∀ l, run l = ∑ q ∈ Finset.range (r.val + 1), ((chose i (b * 1024 + q) l : ℕ) : EReal))
    (hcnt : ∀ l, cnt l = ((seen i (b * 1024) l : ℕ) : EReal)) :
    ∑ l : Fin 8, h l * (run l + cnt l) = ((seen i (n.val + 1) (i n) : ℕ) : EReal) := by
  have e1 (l : Fin 8) : run l + cnt l = ((seen i (n.val + 1) l : ℕ) : EReal) := by
    rw [hrun, hcnt, add_comm, hn]
    unfold seen
    rw [add_assoc, Finset.sum_range_add (fun m => chose i m l) (b * 1024) (r.val + 1), Nat.cast_add, Nat.cast_sum (Finset.range (r.val + 1))]
  simp only [e1, hh, chose_of]
  rw [Finset.sum_eq_single (i n)]
  · rw [if_pos rfl, Nat.cast_one, one_mul]
  · intro l _ hl
    rw [if_neg hl, Nat.cast_zero, zero_mul]
  · intro h; exact absurd (Finset.mem_univ _) h

/-- The weights of a block's tokens. -/
theorem gateOf_apply (c : Dev nD) (t : Fin cfg0.N) (r : Fin 1024) (l : Fin 8) (n : Fin 4096) (hn : n.val = t.val * 1024 + r.val) :
    gateOf (F := Ideal) (grid0.coords t) (blk0 V c 0 t) (blk0 V c 1 t) (cntAt V c t.val) (ix2 r l)
      = gate (pick1 (logits V c)) (prob1 (soft (logits V c n))) n l + gate (pick2 (logits V c)) (prob2 (soft (logits V c n))) n l := by
  have ht : t.val < 4 := t.isLt
  unfold gateOf
  rw [pay25_apply, pay15r_apply, pay16r_apply, scores_eq V c t r n hn, capacity_eq]
  simp only [point0_zero, coord0_zero]
  have r1 := rank_eq (pick1 (logits V c)) n t.val r hn (fun k => hot1 (F := Ideal) (blk0 V c 0 t) (blk0 V c 1 t) (ix2 r k))
    (fun k => run1 (F := Ideal) (blk0 V c 0 t) (blk0 V c 1 t) (ix2 r k)) (fun k => if t.val = 0 then (0 : EReal) else cntAt V c t.val (ix2 0 k))
    (fun k => hn ▸ hot1_chose V c t r k) (fun k => (running1 (f := fun q l => ((chose (pick1 (logits V c)) (t.val * 1024 + q) l : ℕ) : EReal)) _ _ (fun r l => hot1_chose V c t r l)).total r k)
    (fun k => cntAt_apply V c 0 k t.val ht)
  have r2 := rank_eq (pick2 (logits V c)) n t.val r hn (fun k => hot2 (F := Ideal) (blk0 V c 0 t) (blk0 V c 1 t) (ix2 r k))
    (fun k => run2all (run2 (F := Ideal) (blk0 V c 0 t) (blk0 V c 1 t)) (ix2 r k)) (fun k => if t.val = 0 then (0 : EReal) else cntAt V c t.val (ix2 1 k))
    (fun k => hn ▸ hot2_chose V c t r k) (fun k => (running2 (f := fun q l => ((chose (pick2 (logits V c)) (t.val * 1024 + q) l : ℕ) : EReal)) _ _ (fun r l => hot2_chose V c t r l)).total r k)
    (fun k => cntAt_apply V c 1 k t.val ht)
  refine congrArg₂ (· + ·) ((congrArg (· * _) ?_).trans (gate_eq _ _ n l _ ?_)) ((congrArg (· * _) ?_).trans (gate_eq _ _ n l _ ?_))
  · rw [hot1_apply, scores_eq V c t r n hn]
    rfl
  · exact (Eq.to_iff (congrArg (· ≤ _) r1)).trans EReal.natCast_le_iff
  · rw [hot2_apply, scores_eq V c t r n hn]
    rfl
  · exact (Eq.to_iff (congrArg (· ≤ _) r2)).trans EReal.natCast_le_iff

/-- The squared log-sum-exps of the first `b` blocks, added. -/
theorem zAt_apply (c : Dev nD) : ∀ b : ℕ, b < 4 → zAt V c (b + 1) (ix2 0 0)
    = ∑ m ∈ Finset.range ((b + 1) * 1024), if h : m < 4096 then lse (logits V c ⟨m, h⟩) * lse (logits V c ⟨m, h⟩) else 0 := by
  intro b
  have step (b : ℕ) (hb : b < 4) : zAt V c (b + 1) (ix2 0 0) = (if b = 0 then 0 else zAt V c b (ix2 0 0))
      + ∑ m ∈ Finset.range 1024, if h : b * 1024 + m < 4096 then lse (logits V c ⟨b * 1024 + m, h⟩) * lse (logits V c ⟨b * 1024 + m, h⟩) else 0 := by
    have ht : b < cfg0.N := by have : cfg0.N = 4 := N_0; omega
    refine (congrFun (zAt_succ V c ⟨b, ht⟩) _).trans ?_
    rw [zNext_apply, if_congr (coord0_zero ⟨b, ht⟩) rfl rfl, Finset.sum_range]
    refine congrArg _ (Finset.sum_congr rfl fun r _ => ?_)
    have hr : b * 1024 + r.val < 4096 := by omega
    rw [dif_pos hr, scores_eq V c ⟨b, ht⟩ r ⟨_, hr⟩ rfl]
    rfl
  induction b with
  | zero =>
    intro hb
    rw [step 0 hb, if_pos rfl, zero_add]
    simp only [Nat.zero_mul, Nat.zero_add, Nat.one_mul]
  | succ b ih =>
    intro hb
    rw [step (b + 1) hb, if_neg (Nat.succ_ne_zero b), ih (by omega), Nat.succ_mul (b + 1) 1024, Finset.sum_range_add]

/-! ## The four results -/

theorem probs_result (c : Dev nD) (n : Fin 4096) (k : Fin 2) :
    (dat0 V c).arrAt 2 cfg0.N (ix2 n k) = share2 (logits V c) n k := by
  have key : (dat0 V c).arrAt 2 cfg0.N
      = (fun i => share2 (logits V c) (i 0) (i 1) : Vec Ideal S4096x2 .f32) := by
    refine (dat0 V c).arrAt_eq_of_covers 2 _ (by decide +kernel) fun t hf y => ?_
    blk_simp
    show probsOf (F := Ideal) (blk0 V c 0 t) (blk0 V c 1 t) y = _
    obtain ⟨r, d, rfl⟩ : ∃ (r : Fin 1024) (d : Fin 2), y = ix2 r d := ⟨y 0, y 1, by idx_vars y⟩
    set R' := ((cfg0.win 2).blk t).view.emb (ix2 r d) 0 with hR'
    have hR : (R' : ℕ) = t.val * 1024 + r.val := by rw [hR']; blk_simp [index0_2]
    have hd : ((cfg0.win 2).blk t).view.emb (ix2 r d) 1 = d := by apply Fin.ext; blk_simp [index0_2]
    rw [probsOf_apply, hd, scores_eq V c t r R' hR]
    rfl
  exact (congrFun key (ix2 n k)).trans rfl

theorem picks_result (c : Dev nD) (n : Fin 4096) (k : Fin 2) :
    (dat0 V c).arrAt 3 cfg0.N (ix2 n k) = BitVec.ofNat 32 (pick (logits V c) n k).val := by
  have key : (dat0 V c).arrAt 3 cfg0.N
      = (fun i => BitVec.ofNat 32 (pick (logits V c) (i 0) (i 1)).val : Vec Ideal S4096x2 .i32) := by
    refine (dat0 V c).arrAt_eq_of_covers 3 _ (by decide +kernel) fun t hf y => ?_
    blk_simp
    show idxOf (F := Ideal) (blk0 V c 0 t) (blk0 V c 1 t) y = _
    obtain ⟨r, d, rfl⟩ : ∃ (r : Fin 1024) (d : Fin 2), y = ix2 r d := ⟨y 0, y 1, by idx_vars y⟩
    set R' := ((cfg0.win 3).blk t).view.emb (ix2 r d) 0 with hR'
    have hR : (R' : ℕ) = t.val * 1024 + r.val := by rw [hR']; blk_simp [index0_3]
    have hd : ((cfg0.win 3).blk t).view.emb (ix2 r d) 1 = d := by apply Fin.ext; blk_simp [index0_3]
    rw [idxOf_apply, hd, scores_eq V c t r R' hR]
    rfl
  exact (congrFun key (ix2 n k)).trans rfl

theorem gates_result (c : Dev nD) (n : Fin 4096) (l : Fin 8) :
    (dat0 V c).arrAt 4 cfg0.N (ix2 n l)
      = (gate (pick1 (logits V c)) (prob1 (soft (logits V c n))) n l + gate (pick2 (logits V c)) (prob2 (soft (logits V c n))) n l : EReal) := by
  have key : (dat0 V c).arrAt 4 cfg0.N
      = (fun i => (gate (pick1 (logits V c)) (prob1 (soft (logits V c (i 0)))) (i 0) (i 1)
          + gate (pick2 (logits V c)) (prob2 (soft (logits V c (i 0)))) (i 0) (i 1) : EReal) : Vec Ideal S4096x8 .f32) := by
    refine (dat0 V c).arrAt_eq_of_covers 4 _ (by decide +kernel) fun t hf y => ?_
    blk_simp
    show gateOf (F := Ideal) (grid0.coords t) (blk0 V c 0 t) (blk0 V c 1 t) (cntAt V c t.val) y = _
    obtain ⟨r, d, rfl⟩ : ∃ (r : Fin 1024) (d : Fin 8), y = ix2 r d := ⟨y 0, y 1, by idx_vars y⟩
    set R' := ((cfg0.win 4).blk t).view.emb (ix2 r d) 0 with hR'
    have hR : (R' : ℕ) = t.val * 1024 + r.val := by rw [hR']; blk_simp [index0_4]
    have hd : ((cfg0.win 4).blk t).view.emb (ix2 r d) 1 = d := by apply Fin.ext; blk_simp [index0_4]
    rw [gateOf_apply V c t r d R' hR, hd]
  exact (congrFun key (ix2 n l)).trans rfl

theorem z_result (c : Dev nD) :
    (dat0 V c).arrAt 5 cfg0.N (ix2 0 0) = (∑ n : Fin 4096, lse (logits V c n) * lse (logits V c n) : EReal) := by
  have key : (dat0 V c).arrAt 5 cfg0.N = (fun _ => (∑ n : Fin 4096, lse (logits V c n) * lse (logits V c n) : EReal) : Vec Ideal S1x1 .f32) := by
    refine (dat0 V c).arrAt_eq_of_covers 5 _ (by decide +kernel) fun t hf y => ?_
    blk_simp
    have ht : t.val < 4 := t.isLt
    have h3 : t.val = 3 := by have := (flush0_5 t).mp hf; omega
    show zAt V c (t.val + 1) y = _
    have hy : y = ix2 (0 : Fin 1) (0 : Fin 1) := by funext a; fin_cases a <;> exact Subsingleton.elim (α := Fin 1) _ _
    rw [hy, h3, zAt_apply V c 3 (by omega), Finset.sum_range]
    exact Finset.sum_congr rfl fun n _ => dif_pos n.isLt
  exact (congrFun key (ix2 0 0)).trans rfl

end Cert.KernelIdeal.Own

end
-- ==== Proof.V.ExpertValue.lean ====
/-
  What the expert kernel's launch leaves in its result, over the extended reals.
-/
module

public import proofs.«01_k».proof.Proof.KI.ExpertRegion
public import proofs.«01_k».proof.Proof.V.ExpertPay
public import Idealize.ShloMosaic.Lib.Pipeline.ValueKit

@[expose] public section

set_option maxRecDepth 16384

noncomputable section

namespace Cert.KernelIdeal.Own

open Cert.KernelIdeal Cert.KernelIdeal.Gen Cert.Own
open Idealize.ShloMosaic Idealize.ShloMosaic.TcCoe

theorem index1_0 : ∀ t : Fin cfg1.N, win1_0.index t = ![t.val / 72, 0] := by decide +kernel
theorem index1_1 : ∀ t : Fin cfg1.N, win1_1.index t = ![t.val / 8 % 9, t.val % 8, 0] := by decide +kernel
theorem index1_2 : ∀ t : Fin cfg1.N, win1_2.index t = ![t.val / 8 % 9, 0, t.val % 8] := by decide +kernel
theorem index1_3 : ∀ t : Fin cfg1.N, win1_3.index t = ![0, 0] := by decide +kernel
theorem index1_4 : ∀ t : Fin cfg1.N, win1_4.index t = ![0, 0] := by decide +kernel
theorem index1_5 : ∀ t : Fin cfg1.N, win1_5.index t = ![0, 0, 0] := by decide +kernel
theorem index1_6 : ∀ t : Fin cfg1.N, win1_6.index t = ![0, 0, 0] := by decide +kernel
theorem index1_7 : ∀ t : Fin cfg1.N, win1_7.index t = ![t.val / 72, 0] := by decide +kernel
theorem index1_8 : ∀ t : Fin cfg1.N, win1_8.index t = ![t.val / 72, 0] := by decide +kernel

variable (V : Dev nD → Valuation τ sig (Elt Ideal))

theorem loadOff1 : ∀ t : Fin cfg1.N, k1_off1 (grid1.coords t) = ![t.val / 8 % 9, t.val % 8 * 512] := by decide +kernel
theorem loadOff2 : ∀ t : Fin cfg1.N, k1_off2 (grid1.coords t) = ![t.val / 8 % 9, 0, 0] := by decide +kernel
theorem loadOff3 : ∀ t : Fin cfg1.N, k1_off3 (grid1.coords t) = ![t.val / 8 % 9, 0, 0] := by decide +kernel
theorem loadOff4 : ∀ t : Fin cfg1.N, k1_off4 (grid1.coords t) = ![t.val / 8 % 9, 0] := by decide +kernel

/-! ## The blocks the points read, at coordinates -/

section blocks
variable (c : Dev nD) (t : Fin cfg1.N)

theorem blk1_0_apply (r k : Fin 1024) (R : Fin 4096) (hR : R.val = t.val / 72 * 1024 + r.val) :
    blk1 V c 0 t (ix2 r k) = V c (Proc.devRef .tc main_v20) (ix2 R k) := by
  show V c (Proc.devRef .tc main_v20) (((cfg1.win 0).blk t).view.emb (ix2 r k)) = _
  refine congrArg _ ?_
  blk_ext [index1_0]

theorem blk1_1_apply (h : Fin 512) (k : Fin 1024) (e : Fin 9) (H : Fin 4096) (he : e.val = t.val / 8 % 9)
    (hH : H.val = t.val % 8 * 512 + h.val) :
    blk1 V c 1 t (ix3 0 h k) = V c (Proc.devRef .tc main_v4) (ix3 e H k) := by
  show V c (Proc.devRef .tc main_v4) (((cfg1.win 1).blk t).view.emb (ix3 0 h k)) = _
  refine congrArg _ ?_
  blk_ext [index1_1]

theorem blk1_2_apply (h : Fin 512) (d : Fin 1024) (e : Fin 9) (H : Fin 4096) (he : e.val = t.val / 8 % 9)
    (hH : H.val = t.val % 8 * 512 + h.val) :
    blk1 V c 2 t (ix3 0 d h) = V c (Proc.devRef .tc main_v7) (ix3 e d H) := by
  show V c (Proc.devRef .tc main_v7) (((cfg1.win 2).blk t).view.emb (ix3 0 d h)) = _
  refine congrArg _ ?_
  blk_ext [index1_2]

theorem biasRow_apply (h : Fin 512) (e : Fin 9) (H : Fin 4096) (he : e.val = t.val / 8 % 9) (hH : H.val = t.val % 8 * 512 + h.val) :
    biasRow (grid1.coords t) (blk1 V c 3 t) (ix2 0 h) = V c (Proc.devRef .tc main_v9) (ix2 e H) := by
  refine (View.ld_unit_apply_of _ _ _ _ _ (ix2 e H) fun a => ?_).trans ?_
  · refine Eq.trans ?_ (congrArg (· + _) (congrFun (loadOff1 t) a).symm)
    fin_cases a
    · exact he.trans (Nat.add_zero _).symm
    · exact hH
  show V c (Proc.devRef .tc main_v9) (((cfg1.win 3).blk t).view.emb (ix2 e H)) = _
  refine congrArg _ ?_
  blk_ext [index1_3]

theorem bias2Row_apply (d : Fin 1024) (e : Fin 9) (he : e.val = t.val / 8 % 9) :
    bias2Row (grid1.coords t) (blk1 V c 4 t) (ix2 0 d) = V c (Proc.devRef .tc main_v11) (ix2 e d) := by
  refine (View.ld_unit_apply_of _ _ _ _ _ (ix2 e d) fun a => ?_).trans ?_
  · refine Eq.trans ?_ (congrArg (· + _) (congrFun (loadOff4 t) a).symm)
    fin_cases a
    · exact he.trans (Nat.add_zero _).symm
    · exact (Nat.zero_add _).symm
  show V c (Proc.devRef .tc main_v11) (((cfg1.win 4).blk t).view.emb (ix2 e d)) = _
  refine congrArg _ ?_
  blk_ext [index1_4]

theorem downMat_apply (q : Fin 32) (k : Fin 1024) (e : Fin 9) (he : e.val = t.val / 8 % 9) :
    downMat (grid1.coords t) (blk1 V c 5 t) (ix3 0 q k) = V c (Proc.devRef .tc main_v14) (ix3 e q k) := by
  refine (View.ld_unit_apply_of _ _ _ _ _ (ix3 e q k) fun a => ?_).trans ?_
  · refine Eq.trans ?_ (congrArg (· + _) (congrFun (loadOff2 t) a).symm)
    fin_cases a
    · exact he.trans (Nat.add_zero _).symm
    · exact (Nat.zero_add _).symm
    · exact (Nat.zero_add _).symm
  show V c (Proc.devRef .tc main_v14) (((cfg1.win 5).blk t).view.emb (ix3 e q k)) = _
  refine congrArg _ ?_
  blk_ext [index1_5]

theorem upMat_apply (d : Fin 1024) (q : Fin 32) (e : Fin 9) (he : e.val = t.val / 8 % 9) :
    upMat (grid1.coords t) (blk1 V c 6 t) (ix3 0 d q) = V c (Proc.devRef .tc main_v17) (ix3 e d q) := by
  refine (View.ld_unit_apply_of _ _ _ _ _ (ix3 e d q) fun a => ?_).trans ?_
  · refine Eq.trans ?_ (congrArg (· + _) (congrFun (loadOff3 t) a).symm)
    fin_cases a
    · exact he.trans (Nat.add_zero _).symm
    · exact (Nat.zero_add _).symm
    · exact (Nat.zero_add _).symm
  show V c (Proc.devRef .tc main_v17) (((cfg1.win 6).blk t).view.emb (ix3 e d q)) = _
  refine congrArg _ ?_
  blk_ext [index1_6]

theorem blk1_7_apply (r : Fin 1024) (l : Fin 9) (R : Fin 4096) (hR : R.val = t.val / 72 * 1024 + r.val) :
    blk1 V c 7 t (ix2 r l) = V c (Proc.devRef .tc main_v19) (ix2 R l) := by
  show V c (Proc.devRef .tc main_v19) (((cfg1.win 7).blk t).view.emb (ix2 r l)) = _
  refine congrArg _ ?_
  blk_ext [index1_7]

end blocks

/-! ## One expert's output, and the weighted sum of the nine -/

/-- The row of activations, and the parameters of expert `e`, as the launch finds them. -/
abbrev xRow (c : Dev nD) (R : Fin 4096) (k : Fin 1024) : Ideal .bf16 := V c (Proc.devRef .tc main_v20) (ix2 R k)
abbrev w1Of (c : Dev nD) (e : Fin 9) (h : Fin 4096) (k : Fin 1024) : Ideal .bf16 := V c (Proc.devRef .tc main_v4) (ix3 e h k)
abbrev w2Of (c : Dev nD) (e : Fin 9) (d : Fin 1024) (h : Fin 4096) : Ideal .bf16 := V c (Proc.devRef .tc main_v7) (ix3 e d h)
abbrev b1Of (c : Dev nD) (e : Fin 9) (h : Fin 4096) : Ideal .f32 := V c (Proc.devRef .tc main_v9) (ix2 e h)
abbrev b2Of (c : Dev nD) (e : Fin 9) (d : Fin 1024) : Ideal .f32 := V c (Proc.devRef .tc main_v11) (ix2 e d)
abbrev dwOf (c : Dev nD) (e : Fin 9) (q : Fin 32) (k : Fin 1024) : Ideal .bf16 := V c (Proc.devRef .tc main_v14) (ix3 e q k)
abbrev uwOf (c : Dev nD) (e : Fin 9) (d : Fin 1024) (q : Fin 32) : Ideal .bf16 := V c (Proc.devRef .tc main_v17) (ix3 e d q)

abbrev w9Of (c : Dev nD) (R : Fin 4096) (e : Fin 9) : Ideal .f32 := V c (Proc.devRef .tc main_v19) (ix2 R e)

/-- Expert `e` on token `R`. -/
abbrev expertOf (c : Dev nD) (e : Fin 9) (R : Fin 4096) (d : Fin 1024) : Ideal .f32 :=
  expert (xRow V c R) (w1Of V c e) (b1Of V c e) (w2Of V c e) (b2Of V c e) (dwOf V c e) (uwOf V c e) d

/-- The share of hidden unit `n` (none beyond the last). -/
def share (c : Dev nD) (e : Fin 9) (R : Fin 4096) (d : Fin 1024) (n : ℕ) : Ideal .f32 :=
  if h : n < 4096 then hiddenUnit (xRow V c R) (w1Of V c e) (b1Of V c e) ⟨n, h⟩ * w2Of V c e d ⟨n, h⟩ else 0

/-- One point adds its 512 hidden units' shares, after the adapter and the bias at the first. -/
theorem accNext_apply (c : Dev nD) (t : Fin cfg1.N) (acc : Vec Ideal S1024x1024 .f32) (r d : Fin 1024) (e : Fin 9) (R : Fin 4096)
    (he : e.val = t.val / 8 % 9) (hR : R.val = t.val / 72 * 1024 + r.val) (j : ℕ) (hj : j = t.val % 8) :
    accNext (grid1.coords t) (blk1 V c 0 t) (blk1 V c 1 t) (blk1 V c 2 t) (blk1 V c 3 t) (blk1 V c 4 t) (blk1 V c 5 t) (blk1 V c 6 t) acc (ix2 r d)
      = (if j = 0 then adapter (xRow V c R) (dwOf V c e) (uwOf V c e) d + b2Of V c e d else acc (ix2 r d))
        + ∑ h : Fin 512, share V c e R d (j * 512 + h.val) := by
  have hj8 : j < 8 := by omega
  unfold accNext
  rw [pay2_apply, pay5_apply, bias2Row_apply V c t d e he]
  refine congrArg₂ (· + ·) (if_congr ?_ (congrArg (· + _) ?_) rfl) (Finset.sum_congr rfl fun h _ => ?_)
  · rw [coord1_2, ← hj, ← BitVec.toNat_inj]
    simp only [BitVec.toNat_ofNat]
    omega
  · rw [funext fun k => blk1_0_apply V c t r k R hR, funext fun q => funext fun k => downMat_apply V c t q k e he,
      funext fun d => funext fun q => upMat_apply V c t d q e he]
  · have hlt : j * 512 + h.val < 4096 := by omega
    unfold share
    rw [dif_pos hlt]
    refine congrArg₂ (· * ·) ?_ (blk1_2_apply V c t h d e ⟨_, hlt⟩ he (by rw [← hj]))
    unfold hiddenUnit
    refine congrArg gelu (congrArg₂ (· + ·) (Finset.sum_congr rfl fun k _ => congrArg₂ (· * ·) ?_ ?_) ?_)
    · exact blk1_0_apply V c t r k R hR
    · exact blk1_1_apply V c t h k e ⟨_, hlt⟩ he (by rw [← hj])
    · exact biasRow_apply V c t h e ⟨_, hlt⟩ he (by rw [← hj])

/-- The accumulator after `j + 1` of an expert's hidden blocks. -/
theorem accAt_apply (c : Dev nD) (b : Fin 4) (e : Fin 9) (r d : Fin 1024) (R : Fin 4096) (hR : R.val = b.val * 1024 + r.val) :
    ∀ j : ℕ, j < 8 → accAt V c (72 * b.val + 8 * e.val + j + 1) (ix2 r d)
      = adapter (xRow V c R) (dwOf V c e) (uwOf V c e) d + b2Of V c e d + ∑ n ∈ Finset.range ((j + 1) * 512), share V c e R d n := by
  intro j
  induction j with
  | zero =>
    intro _
    have ht : 72 * b.val + 8 * e.val + 0 < cfg1.N := by have : cfg1.N = 288 := N_1; omega
    refine (congrFun (accAt_succ V c ⟨_, ht⟩) _).trans ?_
    rw [accNext_apply V c ⟨_, ht⟩ _ r d e R (by show e.val = (72 * b.val + 8 * e.val + 0) / 8 % 9; omega)
      (by show R.val = (72 * b.val + 8 * e.val + 0) / 72 * 1024 + r.val; omega) 0 (by show 0 = (72 * b.val + 8 * e.val + 0) % 8; omega), if_pos rfl]
    refine congrArg _ ?_
    rw [Finset.sum_range (n := (0 + 1) * 512)]
    simp only [Nat.zero_mul, Nat.zero_add]
  | succ j ih =>
    intro hj
    have ht : 72 * b.val + 8 * e.val + (j + 1) < cfg1.N := by have : cfg1.N = 288 := N_1; omega
    refine (congrFun (accAt_succ V c ⟨_, ht⟩) _).trans ?_
    rw [accNext_apply V c ⟨_, ht⟩ _ r d e R (by show e.val = (72 * b.val + 8 * e.val + (j + 1)) / 8 % 9; omega)
      (by show R.val = (72 * b.val + 8 * e.val + (j + 1)) / 72 * 1024 + r.val; omega) (j + 1)
      (by show j + 1 = (72 * b.val + 8 * e.val + (j + 1)) % 8; omega), if_neg (Nat.succ_ne_zero j)]
    refine (congrArg (· + _) (ih (by omega))).trans ?_
    rw [add_assoc, Nat.succ_mul (j + 1) 512, Finset.sum_range_add]
    refine congrArg _ (congrArg _ ?_)
    rw [Finset.sum_range]

/-- After the last hidden block the accumulator holds the expert's output. -/
theorem accAt_last (c : Dev nD) (b : Fin 4) (e : Fin 9) (r d : Fin 1024) (R : Fin 4096) (hR : R.val = b.val * 1024 + r.val) :
    accAt V c (72 * b.val + 8 * e.val + 8) (ix2 r d) = expertOf V c e R d := by
  refine (accAt_apply V c b e r d R hR 7 (by omega)).trans ?_
  unfold expertOf expert
  rw [add_comm (adapter _ _ _ _) (b2Of V c e d), add_comm, ← add_assoc]
  refine congrArg (· + _) (congrArg (· + _) ?_)
  rw [Finset.sum_range (n := (7 + 1) * 512)]
  refine Finset.sum_congr rfl fun h _ => ?_
  unfold share
  rw [dif_pos h.isLt]

/-- The last point of an expert adds its weighted output. -/
theorem outNext_apply (c : Dev nD) (t : Fin cfg1.N) (o : Vec Ideal S1024x1024 .f32) (r d : Fin 1024) (e : Fin 9) (R : Fin 4096)
    (he : e.val = t.val / 8 % 9) (hR : R.val = t.val / 72 * 1024 + r.val) :
    outNext (grid1.coords t) (blk1 V c 0 t) (blk1 V c 1 t) (blk1 V c 2 t) (blk1 V c 3 t) (blk1 V c 4 t) (blk1 V c 5 t) (blk1 V c 6 t)
        (blk1 V c 7 t) (accAt V c t.val) o (ix2 r d)
      = (if e.val = 0 then 0 else o (ix2 r d)) + w9Of V c R e * accAt V c (t.val + 1) (ix2 r d) := by
  have hw (a b : Fin 9) : BitVec.ofNat 32 a.val = BitVec.ofNat 32 b.val ↔ a = b := by
    rw [← BitVec.toNat_inj, ← Fin.val_inj]
    simp only [BitVec.toNat_ofNat]
    omega
  unfold outNext
  rw [pay3_apply, accAt_succ]
  have hi : (grid1.coords t 1).val = e.val := (coord1_1 t).trans he.symm
  refine congrArg₂ (· + ·) (if_congr ?_ rfl rfl) (congrArg₂ (· * ·) ?_ ?_)
  · rw [hi]
    exact (hw e 0).trans Fin.ext_iff
  · rw [hi]
    simp only [hw]
    rw [Finset.sum_ite_eq' Finset.univ e, if_pos (Finset.mem_univ _)]
    exact blk1_7_apply V c t r e R hR
  · unfold accNext
    rw [pay2_apply, adapter_apply]

/-- The output block after the first `e + 1` experts. -/
theorem outAt_apply (c : Dev nD) (b : Fin 4) (r d : Fin 1024) (R : Fin 4096) (hR : R.val = b.val * 1024 + r.val) :
    ∀ e : ℕ, (he : e < 9) → outAt V c (72 * b.val + 8 * e + 8) (ix2 r d)
      = ∑ k ∈ Finset.range (e + 1), if h : k < 9 then w9Of V c R ⟨k, h⟩ * expertOf V c ⟨k, h⟩ R d else 0 := by
  have hN : cfg1.N = 288 := N_1
  have step (e : ℕ) (he : e < 9) : outAt V c (72 * b.val + 8 * e + 8) (ix2 r d)
      = (if e = 0 then 0 else outAt V c (72 * b.val + 8 * e) (ix2 r d))
        + w9Of V c R ⟨e, he⟩ * expertOf V c ⟨e, he⟩ R d := by
    have keep : ∀ j, j < 8 → outAt V c (72 * b.val + 8 * e + j) = outAt V c (72 * b.val + 8 * e) := by
      intro j
      induction j with
      | zero => exact fun _ => rfl
      | succ j ih =>
        intro hj
        have ht : 72 * b.val + 8 * e + j < cfg1.N := by omega
        refine (outAt_succ V c ⟨_, ht⟩).trans ?_
        rw [if_neg fun h => by have := (cond1_iff ⟨_, ht⟩).mp h; dsimp only at this; omega]
        exact ih (by omega)
    have ht : 72 * b.val + 8 * e + 7 < cfg1.N := by omega
    refine (congrFun (outAt_succ V c ⟨_, ht⟩) _).trans ?_
    rw [if_pos ((cond1_iff ⟨_, ht⟩).mpr (by show (72 * b.val + 8 * e + 7) % 8 = 7; omega))]
    rw [outNext_apply V c ⟨_, ht⟩ _ r d ⟨e, he⟩ R (by show e = (72 * b.val + 8 * e + 7) / 8 % 9; omega)
      (by show R.val = (72 * b.val + 8 * e + 7) / 72 * 1024 + r.val; omega)]
    refine congrArg₂ (· + ·) (if_congr Iff.rfl rfl (congrFun (keep 7 (by omega)) _)) (congrArg _ ?_)
    exact accAt_last V c b ⟨e, he⟩ r d R hR
  intro e
  induction e with
  | zero =>
    intro he
    rw [step 0 he, if_pos rfl, Finset.sum_range_one, dif_pos he, zero_add]
  | succ e ih =>
    intro he
    rw [step (e + 1) he, if_neg (Nat.succ_ne_zero e), Finset.sum_range_succ, dif_pos he]
    exact congrArg (· + _) (ih (by omega))

/-- The result array at token `R`: the nine experts' outputs, weighted and added. -/
theorem result1_apply (c : Dev nD) (R : Fin 4096) (d : Fin 1024) :
    (dat1 V c).arrAt 8 cfg1.N (ix2 R d) = ∑ e : Fin 9, w9Of V c R e * expertOf V c e R d := by
  have key : (dat1 V c).arrAt 8 cfg1.N
      = (fun i => ∑ e : Fin 9, w9Of V c (i 0) e * expertOf V c e (i 0) (i 1) : Vec Ideal S4096x1024 .f32) := by
    refine (dat1 V c).arrAt_eq_of_covers 8 _ (by decide +kernel) fun t hf y => ?_
    blk_simp
    have h71 := (flush1_8 t).mp hf
    have hN : cfg1.N = 288 := N_1
    have hlt := t.isLt
    show outAt V c (t.val + 1) y = _
    obtain ⟨r, d, rfl⟩ : ∃ r d : Fin 1024, y = ix2 r d := ⟨y 0, y 1, by idx_vars y⟩
    have hb : t.val / 72 < 4 := by omega
    set R' := ((cfg1.win 8).blk t).view.emb (ix2 r d) 0 with hR'
    have hR : (R' : ℕ) = t.val / 72 * 1024 + r.val := by rw [hR']; blk_simp [index1_8]
    have hd : ((cfg1.win 8).blk t).view.emb (ix2 r d) 1 = d := by apply Fin.ext; blk_simp [index1_8]
    have e1 : t.val + 1 = 72 * (⟨t.val / 72, hb⟩ : Fin 4).val + 8 * 8 + 8 := by show _ = 72 * (t.val / 72) + 8 * 8 + 8; omega
    rw [e1, outAt_apply V c ⟨t.val / 72, hb⟩ r d R' hR 8 (by omega), hd, Finset.sum_range]
    exact Finset.sum_congr rfl fun e _ => dif_pos e.isLt
  exact (congrFun key (ix2 R d)).trans rfl

end Cert.KernelIdeal.Own

end
-- ==== Proof.V.HostValue.lean ====
/-
  The host's stretches round the two launches: what each launch finds in its arrays, and what the five results hold, over
  the fourteen arguments.
-/
module

public import proofs.«01_k».proof.Proof.V.RouterValue
public import proofs.«01_k».proof.Proof.V.ExpertValue
public import proofs.«01_k».proof.Proof.KI.Run
public import Idealize.ShloMosaic.Lib.StableHlo.ReadAt
public import Idealize.ShloMosaic.Lib.Tactic.CleanTypes

@[expose] public section

set_option maxRecDepth 16384

noncomputable section

namespace Cert.KernelIdeal.Own

open Cert.KernelIdeal Cert.KernelIdeal.Gen Cert.Own
open Idealize.ShloMosaic Idealize.ShloMosaic.TcCoe Idealize.ShloMosaic.Tactic

variable (m : (ℓ : Loc nD τ sig) → Buf (Elt Ideal) ℓ) (c : Dev nD)

/-- What a buffer holds at launch. -/
abbrev arg (r : Ref sig .tc) : Buf (Elt Ideal) ((c : Thread nD τ).loc r) := m ((c : Thread nD τ).loc r)

/-- A buffer that the first stretch does not write and that is no result of the routing launch is, after that launch, as launched. -/
theorem W2_of (r : Ref sig .tc) (h0 : r ∉ hostOps0_W) (k0 : ∀ w, Pipeline.arrRef spec0 w = r → (cfg0.win w).isOut = false) :
    W2 m c (Proc.devRef .tc r) = arg m c r :=
  (Pipeline.afterRegion_keeps (dat0 (W1 m) c) (W1 m c) launch0.win.arr_inj (fun _ => rfl) r k0).trans <|
  StableHlo.after_of_writes_sub hostOps0 _ hostOps0_writes h0

theorem W2_v0 : W2 m c (Proc.devRef .tc main_v0) = W1 m c (Proc.devRef .tc main_v0) :=
  Pipeline.afterRegion_keeps (dat0 (W1 m) c) (W1 m c) launch0.win.arr_inj (fun _ => rfl) main_v0 (by decide)

theorem W2_gates : W2 m c (Proc.devRef .tc main_v1_2) = (dat0 (W1 m) c).arrAt 4 cfg0.N :=
  Pipeline.afterRegion_arr (dat0 (W1 m) c) (W1 m c) launch0.win.arr_inj 4

/-! ## The stacked parameters: the eight experts' own, then the shared expert's -/

theorem w1_apply (e : Fin 9) (h : Fin 4096) (k : Fin 1024) :
    w1Of (W3 m) c e h k = if he : e.val < 8 then arg m c main_arg2 (ix3 ⟨e.val, he⟩ h k) else arg m c main_arg8 (ix2 h k) := by
  rw [← W2_of m c main_arg2 (by decide) (by decide), ← W2_of m c main_arg8 (by decide) (by decide)]
  show W3 m c (Proc.devRef .tc main_v4) _ = _
  unfold W3
  after_reads_at
  split
  · after_reads_simp
  · after_reads_at

theorem w2_apply (e : Fin 9) (d : Fin 1024) (h : Fin 4096) :
    w2Of (W3 m) c e d h = if he : e.val < 8 then arg m c main_arg4 (ix3 ⟨e.val, he⟩ d h) else arg m c main_arg10 (ix2 d h) := by
  rw [← W2_of m c main_arg4 (by decide) (by decide), ← W2_of m c main_arg10 (by decide) (by decide)]
  show W3 m c (Proc.devRef .tc main_v7) _ = _
  unfold W3
  after_reads_at
  split
  · after_reads_simp
  · after_reads_at

theorem b1_apply (e : Fin 9) (h : Fin 4096) :
    b1Of (W3 m) c e h = if he : e.val < 8 then arg m c main_arg3 (ix2 ⟨e.val, he⟩ h) else arg m c main_arg9 (ix1 h) := by
  rw [← W2_of m c main_arg3 (by decide) (by decide), ← W2_of m c main_arg9 (by decide) (by decide)]
  show W3 m c (Proc.devRef .tc main_v9) _ = _
  unfold W3
  after_reads_at

theorem b2_apply (e : Fin 9) (d : Fin 1024) :
    b2Of (W3 m) c e d = if he : e.val < 8 then arg m c main_arg5 (ix2 ⟨e.val, he⟩ d) else arg m c main_arg11 (ix1 d) := by
  rw [← W2_of m c main_arg5 (by decide) (by decide), ← W2_of m c main_arg11 (by decide) (by decide)]
  show W3 m c (Proc.devRef .tc main_v11) _ = _
  unfold W3
  after_reads_at

theorem dw_apply (e : Fin 9) (q : Fin 32) (k : Fin 1024) :
    dwOf (W3 m) c e q k = if he : e.val < 8 then arg m c main_arg6 (ix3 ⟨e.val, he⟩ q k) else arg m c main_arg12 (ix2 q k) := by
  rw [← W2_of m c main_arg6 (by decide) (by decide), ← W2_of m c main_arg12 (by decide) (by decide)]
  show W3 m c (Proc.devRef .tc main_v14) _ = _
  unfold W3
  after_reads_at
  split
  · after_reads_simp
  · after_reads_at

theorem uw_apply (e : Fin 9) (d : Fin 1024) (q : Fin 32) :
    uwOf (W3 m) c e d q = if he : e.val < 8 then arg m c main_arg7 (ix3 ⟨e.val, he⟩ d q) else arg m c main_arg13 (ix2 d q) := by
  rw [← W2_of m c main_arg7 (by decide) (by decide), ← W2_of m c main_arg13 (by decide) (by decide)]
  show W3 m c (Proc.devRef .tc main_v17) _ = _
  unfold W3
  after_reads_at
  split
  · after_reads_simp
  · after_reads_at

/-! ## The tokens and the weights -/

theorem tokens_apply (n : Fin 4096) (k : Fin 1024) :
    tokens (W1 m) c n k = arg m c main_arg0 (ix3 ⟨n.val / 2048, by omega⟩ ⟨n.val % 2048, by omega⟩ k) := by
  show W1 m c (Proc.devRef .tc main_v0) _ = W0 m c (Proc.devRef .tc main_arg0) _
  unfold W1
  after_reads_at

theorem router_apply (k : Fin 1024) (l : Fin 8) : routerOf (W1 m) c k l = arg m c main_arg1 (ix2 k l) :=
  congrFun (StableHlo.after_of_writes_sub hostOps0 _ hostOps0_writes (by decide) : W1 m c (Proc.devRef .tc main_arg1) = _) _

theorem xRow_apply (n : Fin 4096) (k : Fin 1024) : xRow (W3 m) c n k = tokens (W1 m) c n k := by
  show W3 m c (Proc.devRef .tc main_v20) _ = W1 m c (Proc.devRef .tc main_v0) _
  rw [← W2_v0]
  unfold W3
  after_reads_at

theorem w9_apply (n : Fin 4096) (e : Fin 9) :
    w9Of (W3 m) c n e = if he : e.val < 8 then (dat0 (W1 m) c).arrAt 4 cfg0.N (ix2 n ⟨e.val, he⟩) else Ideal.ofBits .f32 0x3E4CCCCD#32 := by
  rw [← W2_gates]
  show W3 m c (Proc.devRef .tc main_v19) _ = _
  unfold W3
  after_reads_at

/-! ## The results -/

/-- A buffer that the middle stretch does not write and that is no result of the expert launch is, after that launch, as the
    routing launch left it. -/
theorem W4_of (r : Ref sig .tc) (h1 : r ∉ hostOps1_W) (k1 : ∀ w, Pipeline.arrRef spec1 w = r → (cfg1.win w).isOut = false) :
    W4 m c (Proc.devRef .tc r) = W2 m c (Proc.devRef .tc r) :=
  (Pipeline.afterRegion_keeps (dat1 (W3 m) c) (W3 m c) launch1.win.arr_inj (fun _ => rfl) r k1).trans <|
  StableHlo.after_of_writes_sub hostOps1 _ hostOps1_writes h1

theorem out_apply (b : Fin 2) (s : Fin 2048) (d : Fin 1024) :
    W5 m c (Proc.devRef .tc main_v25) (ix3 b s d) = (dat1 (W3 m) c).arrAt 8 cfg1.N (ix2 ⟨b.val * 2048 + s.val, by omega⟩ d) := by
  rw [← show W4 m c (Proc.devRef .tc main_v21) = (dat1 (W3 m) c).arrAt 8 cfg1.N from
    Pipeline.afterRegion_arr (dat1 (W3 m) c) (W3 m c) launch1.win.arr_inj 8]
  unfold W5
  after_reads_at

theorem prob_apply (b : Fin 2) (s : Fin 2048) (k : Fin 2) :
    W5 m c (Proc.devRef .tc main_v26) (ix3 b s k) = (dat0 (W1 m) c).arrAt 2 cfg0.N (ix2 ⟨b.val * 2048 + s.val, by omega⟩ k) := by
  rw [← show W2 m c (Proc.devRef .tc main_v1_0) = (dat0 (W1 m) c).arrAt 2 cfg0.N from
    Pipeline.afterRegion_arr (dat0 (W1 m) c) (W1 m c) launch0.win.arr_inj 2, ← W4_of m c main_v1_0 (by decide) (by decide)]
  unfold W5
  after_reads_at

theorem index_apply (b : Fin 2) (s : Fin 2048) (k : Fin 2) :
    W5 m c (Proc.devRef .tc main_v27) (ix3 b s k) = (dat0 (W1 m) c).arrAt 3 cfg0.N (ix2 ⟨b.val * 2048 + s.val, by omega⟩ k) := by
  rw [← show W2 m c (Proc.devRef .tc main_v1_1) = (dat0 (W1 m) c).arrAt 3 cfg0.N from
    Pipeline.afterRegion_arr (dat0 (W1 m) c) (W1 m c) launch0.win.arr_inj 3, ← W4_of m c main_v1_1 (by decide) (by decide)]
  unfold W5
  after_reads_at

theorem even_apply (e : Fin 8) : W5 m c (Proc.devRef .tc main_v24) (ix1 e) = Ideal.ofBits .f32 0x3E000000#32 := by
  unfold W5
  after_reads_at

theorem loss_apply :
    W5 m c (Proc.devRef .tc main_v23) ix0 = Ideal.div ((dat0 (W1 m) c).arrAt 5 cfg0.N (ix2 0 0)) (Ideal.ofBits .f32 0x45800000#32) := by
  rw [← show W2 m c (Proc.devRef .tc main_v1_3) = (dat0 (W1 m) c).arrAt 5 cfg0.N from
    Pipeline.afterRegion_arr (dat0 (W1 m) c) (W1 m c) launch0.win.arr_inj 5, ← W4_of m c main_v1_3 (by decide) (by decide)]
  unfold W5
  after_reads_at

end Cert.KernelIdeal.Own

end
-- ==== Proof.V.RefResult.lean ====
/-
  The reference's results read at an index over the extended reals: the experts' sum, the two choices and their shares,
  and the even load.
-/
module

public import proofs.«01_k».proof.Proof.V.RefValue

@[expose] public section

set_option maxRecDepth 16384

noncomputable section

namespace Cert.ReferenceIdeal.Own

open Cert.ReferenceIdeal Cert.ReferenceIdeal.Gen Cert.ReferenceIdeal.Read Cert.Own
open Idealize.ShloMosaic Idealize.ShloMosaic.TcCoe

variable (x0 : Vec Ideal S2x2048x1024 .f32) (x1 : Vec Ideal S1024x8 .f32) (x2 : Vec Ideal S8x4096x1024 .f32) (x3 : Vec Ideal S8x4096 .f32)
  (x4 : Vec Ideal S8x1024x4096 .f32) (x5 : Vec Ideal S8x1024 .f32) (x6 : Vec Ideal S8x32x1024 .f32) (x7 : Vec Ideal S8x1024x32 .f32)
  (x8 : Vec Ideal S4096x1024 .f32) (x9 : Vec Ideal S4096 .f32) (x10 : Vec Ideal S1024x4096 .f32) (x11 : Vec Ideal S1024 .f32)
  (x12 : Vec Ideal S32x1024 .f32) (x13 : Vec Ideal S1024x32 .f32)

/-- No lane is both choices of a token, so the two weights never meet. -/
theorem gates_mul (h : Good x0 x1) (n : Fin 4096) (e : Fin 8) (y : EReal) :
    (gate (pick1 (score x0 x1)) (prob1 (soft (score x0 x1 n))) n e + gate (pick2 (score x0 x1)) (prob2 (soft (score x0 x1 n))) n e) * y
      = y * gate (pick1 (score x0 x1)) (prob1 (soft (score x0 x1 n))) n e + y * gate (pick2 (score x0 x1)) (prob2 (soft (score x0 x1 n))) n e := by
  by_cases he : e = pick1 (score x0 x1) n
  · have h2 : gate (pick2 (score x0 x1)) (prob2 (soft (score x0 x1 n))) n e = 0 :=
      if_neg fun hh : e = pick2 (score x0 x1) n ∧ Kept (pick2 (score x0 x1)) n => second_ne (h n) (hh.1.symm.trans he)
    rw [h2, add_zero, mul_zero, add_zero, mul_comm]
  · have h1 : gate (pick1 (score x0 x1)) (prob1 (soft (score x0 x1 n))) n e = 0 :=
      if_neg fun hh : e = pick1 (score x0 x1) n ∧ Kept (pick1 (score x0 x1)) n => he hh.1
    rw [h1, zero_add, mul_zero, zero_add, mul_comm]

theorem v249_sum (i : S4096x1024.Idx) (a b : EReal) (ha : (val_main_v217 (F := Ideal) x0 x1 x2 x3 x4 x5 x6 x7 i : EReal) = a)
    (hb : (val_main_v248 (F := Ideal) x0 x8 x9 x10 x11 x12 x13 i : EReal) = b) :
    (val_main_v249 (F := Ideal) x0 x1 x2 x3 x4 x5 x6 x7 x8 x9 x10 x11 x12 x13 i : EReal) = a + b :=
  (val_main_v249_apply x0 x1 x2 x3 x4 x5 x6 x7 x8 x9 x10 x11 x12 x13 i).trans (congrArg₂ (FloatOps.addf (F := Ideal) (φ := .f32)) ha hb)

theorem gates_sum (h : Good x0 x1) (n : Fin 4096) (y : Fin 8 → EReal) :
    (∑ e : Fin 8, y e * gate (pick1 (score x0 x1)) (prob1 (soft (score x0 x1 n))) n e)
      + ∑ e : Fin 8, y e * gate (pick2 (score x0 x1)) (prob2 (soft (score x0 x1 n))) n e
    = ∑ e : Fin 8, (gate (pick1 (score x0 x1)) (prob1 (soft (score x0 x1 n))) n e
        + gate (pick2 (score x0 x1)) (prob2 (soft (score x0 x1 n))) n e) * y e :=
  Finset.sum_add_distrib.symm.trans (Finset.sum_congr rfl fun e _ => (gates_mul x0 x1 h n e (y e)).symm)

theorem v249_apply (h : Good x0 x1) (n : Fin 4096) (d : Fin 1024) :
    val_main_v249 (F := Ideal) x0 x1 x2 x3 x4 x5 x6 x7 x8 x9 x10 x11 x12 x13 (ix2 n d)
    = (∑ e : Fin 8, (gate (pick1 (score x0 x1)) (prob1 (soft (score x0 x1 n))) n e
        + gate (pick2 (score x0 x1)) (prob2 (soft (score x0 x1 n))) n e) * expertAt x0 x2 x3 x4 x5 x6 x7 e n d)
      + Ideal.ofBits .f32 0x3E4CCCCD#32 * sharedAt x0 x8 x9 x10 x11 x12 x13 n d :=
  v249_sum x0 x1 x2 x3 x4 x5 x6 x7 x8 x9 x10 x11 x12 x13 (ix2 n d) _ _
    ((v217_apply x0 x1 x2 x3 x4 x5 x6 x7 h n d).trans (gates_sum x0 x1 h n fun e => expertAt x0 x2 x3 x4 x5 x6 x7 e n d))
    (v248_apply x0 x8 x9 x10 x11 x12 x13 n d)

/-! ## The results in their shapes -/

theorem v253_apply (b : Fin 2) (s : Fin 2048) (d : Fin 1024) :
    val_main_v253 (F := Ideal) x0 x1 x2 x3 x4 x5 x6 x7 x8 x9 x10 x11 x12 x13 (ix3 b s d)
      = val_main_v249 (F := Ideal) x0 x1 x2 x3 x4 x5 x6 x7 x8 x9 x10 x11 x12 x13 (ix2 ⟨b.val * 2048 + s.val, by omega⟩ d) := by
  rw [val_main_v253_apply]
  refine congrArg _ (funext fun a => Fin.ext ?_)
  have := d.isLt
  have := s.isLt
  match a with
  | ⟨0, _⟩ => show ((b.val * 2048 + s.val) * 1024 + d.val) / 1024 = _; show _ = b.val * 2048 + s.val; omega
  | ⟨1, _⟩ => show ((b.val * 2048 + s.val) * 1024 + d.val) % 1024 = d.val; omega

theorem v254_apply (b : Fin 2) (s : Fin 2048) (k : Fin 2) :
    val_main_v254 (F := Ideal) x0 x1 (ix3 b s k) = val_main_v16 (F := Ideal) x0 x1 (ix2 ⟨b.val * 2048 + s.val, by omega⟩ k) := by
  rw [val_main_v254_apply]
  refine congrArg _ (funext fun a => Fin.ext ?_)
  have := k.isLt
  match a with
  | ⟨0, _⟩ => show ((b.val * 2048 + s.val) * 2 + k.val) / 2 = _; show _ = b.val * 2048 + s.val; omega
  | ⟨1, _⟩ => show ((b.val * 2048 + s.val) * 2 + k.val) % 2 = k.val; omega

theorem v255_apply (b : Fin 2) (s : Fin 2048) (k : Fin 2) :
    val_main_v255 (F := Ideal) x0 x1 (ix3 b s k) = val_main_indices (F := Ideal) x0 x1 (ix2 ⟨b.val * 2048 + s.val, by omega⟩ k) := by
  rw [val_main_v255_apply]
  refine congrArg _ (funext fun a => Fin.ext ?_)
  have := k.isLt
  match a with
  | ⟨0, _⟩ => show ((b.val * 2048 + s.val) * 2 + k.val) / 2 = _; show _ = b.val * 2048 + s.val; omega
  | ⟨1, _⟩ => show ((b.val * 2048 + s.val) * 2 + k.val) % 2 = k.val; omega

theorem eight : Ideal.ofBits .f32 0x41000000#32 = ((8 : ℝ) : EReal) := by
  simp only [Ideal.ofBits, Ideal.ieee]
  simp
  rw [← EReal.coe_mul, EReal.coe_eq_coe_iff]
  norm_num

theorem eighth : Ideal.ofBits .f32 0x3E000000#32 = ((1 / 8 : ℝ) : EReal) := by
  simp only [Ideal.ofBits, Ideal.ieee]
  simp
  rw [← EReal.coe_mul, EReal.coe_eq_coe_iff]
  norm_num

theorem v252_apply (e : Fin 8) : val_main_v252 (F := Ideal) (ix1 e) = Ideal.ofBits .f32 0x3E000000#32 := by
  pointwise [val_main_v250, val_main_v251, val_main_v252, val_main_cst_54, val_main_cst_55]
  rw [eight, eighth, Ideal.div_coe (by norm_num), one_mul]

end Cert.ReferenceIdeal.Own

end
-- ==== Proof.V.Tie.lean ====
/-
  The two programs' five results are the same: each launch's closed form, over the arguments, against the reference's.
-/
module

public import proofs.«01_k».proof.Proof.V.HostValue
public import proofs.«01_k».proof.Proof.V.RefResult

@[expose] public section

set_option maxRecDepth 16384

noncomputable section

namespace Cert.KernelIdeal.Own

open Cert.KernelIdeal Cert.KernelIdeal.Gen Cert.Own Cert.ReferenceIdeal.Read
open Cert.ReferenceIdeal.Own (score Good expertAt sharedAt)
open Idealize.ShloMosaic Idealize.ShloMosaic.TcCoe

variable (m : (ℓ : Loc nD τ sig) → Buf (Elt Ideal) ℓ) (c : Dev nD)

theorem tokens_eq (n : Fin 4096) (k : Fin 1024) : tokens (W1 m) c n k = Cert.ReferenceIdeal.Own.tok (arg m c main_arg0) n k := by
  rw [tokens_apply]
  show _ = val_main_v0 (F := Ideal) (arg m c main_arg0) (ix2 n k)
  pointwise [val_main_v0]

theorem logits_eq : logits (W1 m) c = score (arg m c main_arg0) (arg m c main_arg1) := by
  funext n l
  unfold logits score
  exact Finset.sum_congr rfl fun k _ => congrArg₂ (· * ·) (tokens_eq m c n k) (router_apply m c k l)

theorem xRow_eq (n : Fin 4096) : xRow (W3 m) c n = Cert.ReferenceIdeal.Own.tok (arg m c main_arg0) n :=
  funext fun k => (xRow_apply m c n k).trans (tokens_eq m c n k)

/-- The first eight of the stacked experts are the routed ones. -/
theorem own_eq (e : Fin 8) (n : Fin 4096) (d : Fin 1024) : expertOf (W3 m) c e.castSucc n d
    = expertAt (arg m c main_arg0) (arg m c main_arg2) (arg m c main_arg3) (arg m c main_arg4) (arg m c main_arg5) (arg m c main_arg6) (arg m c main_arg7) e n d := by
  have he : e.castSucc.val < 8 := e.isLt
  unfold expertOf expertAt
  congr 1
  · exact xRow_eq m c n
  · exact funext fun h => funext fun k => (w1_apply m c _ h k).trans (dif_pos he)
  · exact funext fun h => (b1_apply m c _ h).trans (dif_pos he)
  · exact funext fun d => funext fun h => (w2_apply m c _ d h).trans (dif_pos he)
  · exact funext fun d => (b2_apply m c _ d).trans (dif_pos he)
  · exact funext fun q => funext fun k => (dw_apply m c _ q k).trans (dif_pos he)
  · exact funext fun d => funext fun q => (uw_apply m c _ d q).trans (dif_pos he)

/-- The ninth is the shared one. -/
theorem shared_eq (n : Fin 4096) (d : Fin 1024) : expertOf (W3 m) c (Fin.last 8) n d
    = sharedAt (arg m c main_arg0) (arg m c main_arg8) (arg m c main_arg9) (arg m c main_arg10) (arg m c main_arg11) (arg m c main_arg12) (arg m c main_arg13) n d := by
  have he : ¬ (Fin.last 8).val < 8 := by decide
  unfold expertOf sharedAt
  congr 1
  · exact xRow_eq m c n
  · exact funext fun h => funext fun k => (w1_apply m c _ h k).trans (dif_neg he)
  · exact funext fun h => (b1_apply m c _ h).trans (dif_neg he)
  · exact funext fun d => funext fun h => (w2_apply m c _ d h).trans (dif_neg he)
  · exact funext fun d => (b2_apply m c _ d).trans (dif_neg he)
  · exact funext fun q => funext fun k => (dw_apply m c _ q k).trans (dif_neg he)
  · exact funext fun d => funext fun q => (uw_apply m c _ d q).trans (dif_neg he)

variable (h : Good (arg m c main_arg0) (arg m c main_arg1))

include h in
/-- The expert launch's result is the reference's sum over the experts. -/
theorem rows_eq (n : Fin 4096) (d : Fin 1024) : (dat1 (W3 m) c).arrAt 8 cfg1.N (ix2 n d)
    = val_main_v249 (F := Ideal) (arg m c main_arg0) (arg m c main_arg1) (arg m c main_arg2) (arg m c main_arg3) (arg m c main_arg4) (arg m c main_arg5)
      (arg m c main_arg6) (arg m c main_arg7) (arg m c main_arg8) (arg m c main_arg9) (arg m c main_arg10) (arg m c main_arg11) (arg m c main_arg12) (arg m c main_arg13) (ix2 n d) := by
  refine (result1_apply (W3 m) c n d).trans (Eq.trans ?_ (Cert.ReferenceIdeal.Own.v249_apply _ _ _ _ _ _ _ _ _ _ _ _ _ _ h n d).symm)
  refine (Fin.sum_univ_castSucc (M := EReal) (fun e : Fin 9 => w9Of (W3 m) c n e * expertOf (W3 m) c e n d)).trans ?_
  refine congrArg₂ (· + ·) (Finset.sum_congr rfl fun e _ => congrArg₂ (· * ·) ?_ (own_eq m c e n d)) (congrArg₂ (· * ·) ?_ (shared_eq m c n d))
  · refine (w9_apply m c n e.castSucc).trans ((dif_pos e.isLt).trans ((gates_result (W1 m) c n e).trans ?_))
    rw [logits_eq]
  · exact (w9_apply m c n (Fin.last 8)).trans (dif_neg (by decide))

include h in
theorem out_eq : W5 m c (Proc.devRef .tc main_v25)
    = val_main_v253 (F := Ideal) (arg m c main_arg0) (arg m c main_arg1) (arg m c main_arg2) (arg m c main_arg3) (arg m c main_arg4) (arg m c main_arg5)
      (arg m c main_arg6) (arg m c main_arg7) (arg m c main_arg8) (arg m c main_arg9) (arg m c main_arg10) (arg m c main_arg11) (arg m c main_arg12) (arg m c main_arg13) := by
  funext y
  obtain ⟨b, s, d, rfl⟩ : ∃ (b : Fin 2) (s : Fin 2048) (d : Fin 1024), y = ix3 b s d := ⟨y 0, y 1, y 2, by idx_vars y⟩
  exact (out_apply m c b s d).trans ((rows_eq m c h _ d).trans (Cert.ReferenceIdeal.Own.v253_apply _ _ _ _ _ _ _ _ _ _ _ _ _ _ b s d).symm)

include h in
theorem prob_eq : W5 m c (Proc.devRef .tc main_v26) = val_main_v254 (F := Ideal) (arg m c main_arg0) (arg m c main_arg1) := by
  funext y
  obtain ⟨b, s, k, rfl⟩ : ∃ (b : Fin 2) (s : Fin 2048) (k : Fin 2), y = ix3 b s k := ⟨y 0, y 1, y 2, by idx_vars y⟩
  refine (prob_apply m c b s k).trans ((probs_result (W1 m) c _ k).trans ?_)
  rw [logits_eq]
  exact ((Cert.ReferenceIdeal.Own.v254_apply _ _ b s k).trans (Cert.ReferenceIdeal.Own.v16_apply _ _ h _ k)).symm

include h in
theorem index_eq : W5 m c (Proc.devRef .tc main_v27) = val_main_v255 (F := Ideal) (arg m c main_arg0) (arg m c main_arg1) := by
  funext y
  obtain ⟨b, s, k, rfl⟩ : ∃ (b : Fin 2) (s : Fin 2048) (k : Fin 2), y = ix3 b s k := ⟨y 0, y 1, y 2, by idx_vars y⟩
  refine (index_apply m c b s k).trans ((picks_result (W1 m) c _ k).trans ?_)
  rw [logits_eq]
  exact ((Cert.ReferenceIdeal.Own.v255_apply _ _ b s k).trans (Cert.ReferenceIdeal.Own.indices_apply _ _ h _ k)).symm

theorem even_eq : W5 m c (Proc.devRef .tc main_v24) = val_main_v252 (F := Ideal) := by
  funext y
  obtain ⟨e, rfl⟩ : ∃ e : Fin 8, y = ix1 e := ⟨y 0, by idx_vars y⟩
  exact (even_apply m c e).trans (Cert.ReferenceIdeal.Own.v252_apply e).symm

theorem loss_eq (hr : ∀ n l, Real' (score (arg m c main_arg0) (arg m c main_arg1) n l)) : W5 m c (Proc.devRef .tc main_v23) = val_main_v35 (F := Ideal) (arg m c main_arg0) (arg m c main_arg1) := by
  funext y
  obtain rfl : y = ix0 := funext fun a => a.elim0
  refine (loss_apply m c).trans (Eq.trans ?_ (Cert.ReferenceIdeal.Own.v35_apply _ _ hr).symm)
  rw [z_result, logits_eq]

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.K.Run
public import proofs.«01_k».proof.Proof.KI.Run
public import proofs.«01_k».proof.Proof.V.Pre
public import proofs.«01_k».proof.Proof.V.Tie
public import Idealize.ShloMosaic.Adequacy
public import Idealize.ShloMosaic.Init

@[expose] public section

noncomputable section

namespace Cert.Proof

open Idealize.ShloMosaic Idealize.SL.Sem Cert.Kernel

/-- The kernel program runs from every memory, keeps its arguments and leaves every counter at zero. -/
theorem kernel_frame : @Cert.quiescent_Kernel Cert.Kernel.Gen.facts := fun m g _ =>
  (θ_run (Cert.Kernel.defs (F := Bits)) _ _).mono (fun _ h => h) (Cert.Kernel.Own.frame_run (F := Bits) m g)

/-- So does the kernel program read over the extended reals. -/
theorem kernelIdeal_frame : @Cert.quiescent_KernelIdeal Cert.KernelIdeal.Gen.facts := fun m g _ =>
  (θ_run (Cert.KernelIdeal.defs (F := Ideal)) _ _).mono (fun _ h => h) (Cert.KernelIdeal.Own.frame_run (F := Ideal) m g)

/-- So does the reference program. -/
theorem referenceIdeal_frame : @Cert.quiescent_ReferenceIdeal Cert.ReferenceIdeal.Gen.facts := fun m g _ =>
  (θ_run (Cert.ReferenceIdeal.defs (F := Ideal)) _ _).mono
    (fun r h => ⟨fun c => (h c).2.2.2.2.2, sem_eq_zero_of_no_sems (by decide) r.2⟩) (Cert.ReferenceIdeal.Value.run (F := Ideal) m g)

/-- On finite tokens and router weights the kernel and the reference, read over the extended reals, end with the same five
    results, arguments unchanged. -/
theorem algebraic : @Cert.algebraic_KernelIdeal_ReferenceIdeal_pre_finite_router_inputs
    Cert.KernelIdeal.Gen.facts Cert.ReferenceIdeal.Gen.facts Cert.Pre_finite_router_inputs.Own.facts := by
  intro m g m' g' hpre hagree
  have hreal (c : Dev Cert.KernelIdeal.nD) := Cert.Pre_finite_router_inputs.Own.real_of_pre _ _ _ _ _ _ _ _ _ _ _ _ _ _ (hpre c)
  have hscore (c : Dev Cert.KernelIdeal.nD) : ∀ n l, Cert.Own.Real' (Cert.ReferenceIdeal.Own.score
      (Cert.KernelIdeal.Own.arg m c Cert.KernelIdeal.main_arg0) (Cert.KernelIdeal.Own.arg m c Cert.KernelIdeal.main_arg1) n l) :=
    Cert.Pre_finite_router_inputs.Own.scores_of_real _ _ (hreal c).1 (hreal c).2
  have hgood (c : Dev Cert.KernelIdeal.nD) : Cert.ReferenceIdeal.Own.Good
      (Cert.KernelIdeal.Own.arg m c Cert.KernelIdeal.main_arg0) (Cert.KernelIdeal.Own.arg m c Cert.KernelIdeal.main_arg1) :=
    Cert.Pre_finite_router_inputs.Own.good_of_real _ _ (hreal c).1 (hreal c).2
  refine ⟨fun c => Cert.KernelIdeal.Own.W5 m c (Proc.devRef .tc Cert.KernelIdeal.main_v25),
    fun c => Cert.KernelIdeal.Own.W5 m c (Proc.devRef .tc Cert.KernelIdeal.main_v26),
    fun c => Cert.KernelIdeal.Own.W5 m c (Proc.devRef .tc Cert.KernelIdeal.main_v27),
    fun c => Cert.KernelIdeal.Own.W5 m c (Proc.devRef .tc Cert.KernelIdeal.main_v24),
    fun c => Cert.KernelIdeal.Own.W5 m c (Proc.devRef .tc Cert.KernelIdeal.main_v23), ?_, ?_⟩
  · refine (θ_run (Cert.KernelIdeal.defs (F := Ideal)) _ _).mono (fun r h c => ?_) (Cert.KernelIdeal.Own.run (F := Ideal) m g)
    have e (b : Ref Cert.KernelIdeal.sig .tc) (hu : ¬ (Proc.devRef (τ := Cert.KernelIdeal.τ) .tc b).isScoped) :
        r.2.mem ((c.tc : Thread Cert.KernelIdeal.nD Cert.KernelIdeal.τ).loc b) = Cert.KernelIdeal.Own.W5 m c (Proc.devRef .tc b) :=
      h.1 c (Proc.devRef .tc b) (Cert.KernelIdeal.Own.mem_uc b hu)
    have k := Cert.KernelIdeal.Own.W5_of m c
    exact ⟨e _ (by decide), e _ (by decide), e _ (by decide), e _ (by decide), e _ (by decide),
      (e _ (by decide)).trans (k _ (by decide) (by decide) (by decide) (by decide) (by decide)),
      (e _ (by decide)).trans (k _ (by decide) (by decide) (by decide) (by decide) (by decide)),
      (e _ (by decide)).trans (k _ (by decide) (by decide) (by decide) (by decide) (by decide)),
      (e _ (by decide)).trans (k _ (by decide) (by decide) (by decide) (by decide) (by decide)),
      (e _ (by decide)).trans (k _ (by decide) (by decide) (by decide) (by decide) (by decide)),
      (e _ (by decide)).trans (k _ (by decide) (by decide) (by decide) (by decide) (by decide)),
      (e _ (by decide)).trans (k _ (by decide) (by decide) (by decide) (by decide) (by decide)),
      (e _ (by decide)).trans (k _ (by decide) (by decide) (by decide) (by decide) (by decide)),
      (e _ (by decide)).trans (k _ (by decide) (by decide) (by decide) (by decide) (by decide)),
      (e _ (by decide)).trans (k _ (by decide) (by decide) (by decide) (by decide) (by decide)),
      (e _ (by decide)).trans (k _ (by decide) (by decide) (by decide) (by decide) (by decide)),
      (e _ (by decide)).trans (k _ (by decide) (by decide) (by decide) (by decide) (by decide)),
      (e _ (by decide)).trans (k _ (by decide) (by decide) (by decide) (by decide) (by decide)),
      (e _ (by decide)).trans (k _ (by decide) (by decide) (by decide) (by decide) (by decide))⟩
  · refine (θ_run (Cert.ReferenceIdeal.defs (F := Ideal)) _ _).mono (fun r h c => ?_) (Cert.ReferenceIdeal.Value.run (F := Ideal) m' g')
    obtain ⟨h0, h1, h2, h3, h4, hargs⟩ := h c
    obtain ⟨a0, a1, a2, a3, a4, a5, a6, a7, a8, a9, a10, a11, a12, a13⟩ := hagree c
    have l (r : Ref Cert.ReferenceIdeal.sig .tc) : StableHlo.launchContents m' c (Proc.devRef .tc r)
        = m' ((c.tc : Thread Cert.ReferenceIdeal.nD Cert.ReferenceIdeal.τ).loc r) := rfl
    refine ⟨h0.trans ?_, h1.trans ?_, h2.trans ?_, h3.trans ?_, h4.trans ?_, hargs⟩
    · rw [Cert.ReferenceIdeal.Read.val_main_v253_eq]
      simp only [l]
      rw [a0, a1, a2, a3, a4, a5, a6, a7, a8, a9, a10, a11, a12, a13]
      exact (Cert.KernelIdeal.Own.out_eq m c (hgood c)).symm
    · rw [Cert.ReferenceIdeal.Read.val_main_v254_eq, l, l, a0, a1]
      exact (Cert.KernelIdeal.Own.prob_eq m c (hgood c)).symm
    · rw [Cert.ReferenceIdeal.Read.val_main_v255_eq, l, l, a0, a1]
      exact (Cert.KernelIdeal.Own.index_eq m c (hgood c)).symm
    · exact (Cert.KernelIdeal.Own.even_eq m c).symm
    · rw [Cert.ReferenceIdeal.Read.val_main_v35_eq, l, l, a0, a1]
      exact (Cert.KernelIdeal.Own.loss_eq m c (hscore c)).symm

theorem claim : Cert.Claim := ⟨Cert.Kernel.Gen.facts, Cert.KernelIdeal.Gen.facts, Cert.ReferenceIdeal.Gen.facts,
  Cert.Pre_finite_router_inputs.Own.facts, kernel_frame, kernelIdeal_frame, fun m g _ => kernelIdeal_frame m g trivial,
  referenceIdeal_frame, fun m g _ => referenceIdeal_frame m g trivial, trivial, algebraic⟩

end Cert.Proof

end
